-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_filter [hPre_finite_filter : Cert.Pre_finite_filter.Facts] (m : (ℓ : Loc Cert.KernelIdeal.nD Cert.KernelIdeal.τ Cert.KernelIdeal.sig) → Buf (Elt Ideal) ℓ) : Prop :=
  ∀ c : Dev Cert.KernelIdeal.nD,
    (Cert.Pre_finite_filter.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_filter.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_filter.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_filter.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_filter.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_filter.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite_filter.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite_filter.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_filter [hPre_finite_filter : Cert.Pre_finite_filter.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_filter.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_filter.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_filter.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_filter.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_filter.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_filter.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite_filter.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite_filter.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_filter [hKernelIdeal : Cert.KernelIdeal.Facts] [hPre_finite_filter : Cert.Pre_finite_filter.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_filter m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_filter [hReferenceIdeal : Cert.ReferenceIdeal.Facts] [hPre_finite_filter : Cert.Pre_finite_filter.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_filter m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_finite_filter [hKernelIdeal : Cert.KernelIdeal.Facts] [hReferenceIdeal : Cert.ReferenceIdeal.Facts] [hPre_finite_filter : Cert.Pre_finite_filter.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_filter m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v117_1)) (v1 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117_1) = v0 c
          ∧ r.2.mem ((c.tc : Thread Cert.KernelIdeal.nD Cert.KernelIdeal.τ).loc Cert.KernelIdeal.main_v118) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_v256) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_filter : Cert.Pre_finite_filter.Facts),
    quiescent_Kernel (hKernel := hKernel)
    ∧ quiescent_KernelIdeal (hKernelIdeal := hKernelIdeal)
    ∧ quiescent_KernelIdeal_pre_finite_filter (hKernelIdeal := hKernelIdeal) (hPre_finite_filter := hPre_finite_filter)
    ∧ quiescent_ReferenceIdeal (hReferenceIdeal := hReferenceIdeal)
    ∧ quiescent_ReferenceIdeal_pre_finite_filter (hReferenceIdeal := hReferenceIdeal) (hPre_finite_filter := hPre_finite_filter)
    ∧ preserves_Kernel_KernelIdeal
    ∧ algebraic_KernelIdeal_ReferenceIdeal_pre_finite_filter (hKernelIdeal := hKernelIdeal) (hReferenceIdeal := hReferenceIdeal) (hPre_finite_filter := hPre_finite_filter)
-- ==== Pre_finite_filter.lean ====
abbrev S2048x512 : Shape := ⟨2, ![2048, 512]⟩
abbrev S2x65536 : Shape := ⟨2, ![2, 65536]⟩
abbrev S128x512 : Shape := ⟨2, ![128, 512]⟩
abbrev S32x1 : Shape := ⟨2, ![32, 1]⟩
abbrev S32 : Shape := ⟨1, ![32]⟩
abbrev S64x32 : Shape := ⟨2, ![64, 32]⟩
abbrev S64 : Shape := ⟨1, ![64]⟩
abbrev S32x64 : Shape := ⟨2, ![32, 64]⟩
abbrev S4x32 : Shape := ⟨2, ![4, 32]⟩
abbrev S4 : Shape := ⟨1, ![4]⟩
abbrev S_ : Shape := ⟨0, ![]⟩

class Facts : Prop where
  bcast_S_S32x1 : S_.BroadcastsInDim S32x1 (![] : Fin 0 → Fin S32x1.rank)
  bcast_S_S32 : S_.BroadcastsInDim S32 (![] : Fin 0 → Fin S32.rank)
  bcast_S_S64x32 : S_.BroadcastsInDim S64x32 (![] : Fin 0 → Fin S64x32.rank)
  bcast_S_S64 : S_.BroadcastsInDim S64 (![] : Fin 0 → Fin S64.rank)
  bcast_S_S32x64 : S_.BroadcastsInDim S32x64 (![] : Fin 0 → Fin S32x64.rank)
  bcast_S_S4x32 : S_.BroadcastsInDim S4x32 (![] : Fin 0 → Fin S4x32.rank)
  bcast_S_S4 : S_.BroadcastsInDim S4 (![] : Fin 0 → Fin S4.rank)

variable [Facts]

def fn_part1 {F : FTy → Type} [FloatOps F] (main_arg9 : FVec F S4x32 .f32) (main_arg10 : FVec F S4 .f32) (main_v2 : IVec S32x1 1) (main_v5 : IVec S32 1) (main_v8 : IVec S64x32 1) (main_v11 : IVec S64 1) (main_v14 : IVec S32x64 1) (main_v17 : IVec S32 1) : IVec S32x1 1 × IVec S32 1 × IVec S64x32 1 × IVec S64 1 × IVec S32x64 1 × IVec S32 1 × IVec S4x32 1 × IVec S4 1 :=
  let main_v18 : FVec F S4x32 .f32 := Host.absf main_arg9
  let main_cst_5 : FVec F S_ .f32 := constant S_ .f32 0x7F800000#32
  let main_v19 : FVec F S4x32 .f32 := broadcastInDim S4x32 ![] bcast_S_S4x32 main_cst_5
  let main_v20 : IVec S4x32 1 := cmpf .olt main_v18 main_v19
  let main_v21 : FVec F S4 .f32 := Host.absf main_arg10
  let main_cst_6 : FVec F S_ .f32 := constant S_ .f32 0x7F800000#32
  let main_v22 : FVec F S4 .f32 := broadcastInDim S4 ![] bcast_S_S4 main_cst_6
  let main_v23 : IVec S4 1 := cmpf .olt main_v21 main_v22
  (main_v2, main_v5, main_v8, main_v11, main_v14, main_v17, main_v20, main_v23)

def fn {F : FTy → Type} [FloatOps F] (main_arg0 : FVec F S2048x512 .f32) (main_arg1 : IVec S2x65536 32) (main_arg2 : FVec F S128x512 .f32) (main_arg3 : FVec F S32x1 .f32) (main_arg4 : FVec F S32 .f32) (main_arg5 : FVec F S64x32 .f32) (main_arg6 : FVec F S64 .f32) (main_arg7 : FVec F S32x64 .f32) (main_arg8 : FVec F S32 .f32) (main_arg9 : FVec F S4x32 .f32) (main_arg10 : FVec F S4 .f32) : IVec S32x1 1 × IVec S32 1 × IVec S64x32 1 × IVec S64 1 × IVec S32x64 1 × IVec S32 1 × IVec S4x32 1 × IVec S4 1 :=
  let main_v0 : FVec F S32x1 .f32 := Host.absf main_arg3
  let main_cst : FVec F S_ .f32 := constant S_ .f32 0x7F800000#32
  let main_v1 : FVec F S32x1 .f32 := broadcastInDim S32x1 ![] bcast_S_S32x1 main_cst
  let main_v2 : IVec S32x1 1 := cmpf .olt main_v0 main_v1
  let main_v3 : FVec F S32 .f32 := Host.absf main_arg4
  let main_cst_0 : FVec F S_ .f32 := constant S_ .f32 0x7F800000#32
  let main_v4 : FVec F S32 .f32 := broadcastInDim S32 ![] bcast_S_S32 main_cst_0
  let main_v5 : IVec S32 1 := cmpf .olt main_v3 main_v4
  let main_v6 : FVec F S64x32 .f32 := Host.absf main_arg5
  let main_cst_1 : FVec F S_ .f32 := constant S_ .f32 0x7F800000#32
  let main_v7 : FVec F S64x32 .f32 := broadcastInDim S64x32 ![] bcast_S_S64x32 main_cst_1
  let main_v8 : IVec S64x32 1 := cmpf .olt main_v6 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S32x64 .f32 := Host.absf main_arg7
  let main_cst_3 : FVec F S_ .f32 := constant S_ .f32 0x7F800000#32
  let main_v13 : FVec F S32x64 .f32 := broadcastInDim S32x64 ![] bcast_S_S32x64 main_cst_3
  let main_v14 : IVec S32x64 1 := cmpf .olt main_v12 main_v13
  let main_v15 : FVec F S32 .f32 := Host.absf main_arg8
  let main_cst_4 : FVec F S_ .f32 := constant S_ .f32 0x7F800000#32
  let main_v16 : FVec F S32 .f32 := broadcastInDim S32 ![] bcast_S_S32 main_cst_4
  let main_v17 : IVec S32 1 := cmpf .olt main_v15 main_v16
  fn_part1 (F := F) main_arg9 main_arg10 main_v2 main_v5 main_v8 main_v11 main_v14 main_v17
-- ==== Kernel.lean ====
abbrev S2048x512 : Shape := ⟨2, ![2048, 512]⟩
abbrev S2x65536 : Shape := ⟨2, ![2, 65536]⟩
abbrev S128x512 : Shape := ⟨2, ![128, 512]⟩
abbrev S32x1 : Shape := ⟨2, ![32, 1]⟩
abbrev S32 : Shape := ⟨1, ![32]⟩
abbrev S64x32 : Shape := ⟨2, ![64, 32]⟩
abbrev S64 : Shape := ⟨1, ![64]⟩
abbrev S32x64 : Shape := ⟨2, ![32, 64]⟩
abbrev S4x32 : Shape := ⟨2, ![4, 32]⟩
abbrev S4 : Shape := ⟨1, ![4]⟩
abbrev S1x65536 : Shape := ⟨2, ![1, 65536]⟩
abbrev S65536 : Shape := ⟨1, ![65536]⟩
abbrev S_ : Shape := ⟨0, ![]⟩
abbrev S2048x2048 : Shape := ⟨2, ![2048, 2048]⟩
abbrev S65536x1 : Shape := ⟨2, ![65536, 1]⟩
abbrev S65536x2 : Shape := ⟨2, ![65536, 2]⟩
abbrev S2048 : Shape := ⟨1, ![2048]⟩
abbrev S2048x1 : Shape := ⟨2, ![2048, 1]⟩
abbrev S1x2048 : Shape := ⟨2, ![1, 2048]⟩
abbrev S9 : Shape := ⟨1, ![9]⟩
abbrev S9x1 : Shape := ⟨2, ![9, 1]⟩
abbrev S1x32 : Shape := ⟨2, ![1, 32]⟩
abbrev S9x32 : Shape := ⟨2, ![9, 32]⟩
abbrev S9x64 : Shape := ⟨2, ![9, 64]⟩
abbrev S1x64 : Shape := ⟨2, ![1, 64]⟩
abbrev S32x4 : Shape := ⟨2, ![32, 4]⟩
abbrev S9x4 : Shape := ⟨2, ![9, 4]⟩
abbrev S1x4 : Shape := ⟨2, ![1, 4]⟩
abbrev S1x9 : Shape := ⟨2, ![1, 9]⟩
abbrev S9x9 : Shape := ⟨2, ![9, 9]⟩
abbrev S9x9x1 : Shape := ⟨3, ![9, 9, 1]⟩
abbrev S1x9x4 : Shape := ⟨3, ![1, 9, 4]⟩
abbrev S9x9x4 : Shape := ⟨3, ![9, 9, 4]⟩
abbrev S512x128 : Shape := ⟨2, ![512, 128]⟩
abbrev S2048x128 : Shape := ⟨2, ![2048, 128]⟩
abbrev S256x512 : Shape := ⟨2, ![256, 512]⟩
abbrev S256x128 : Shape := ⟨2, ![256, 128]⟩
abbrev S256x2048 : Shape := ⟨2, ![256, 2048]⟩
abbrev S4x2048x2048 : Shape := ⟨3, ![4, 2048, 2048]⟩
abbrev S128x2048 : Shape := ⟨2, ![128, 2048]⟩
abbrev S4x128x2048 : Shape := ⟨3, ![4, 128, 2048]⟩
abbrev S1x1 : Shape := ⟨2, ![1, 1]⟩
abbrev S128 : Shape := ⟨1, ![128]⟩
abbrev S128x1 : Shape := ⟨2, ![128, 1]⟩
abbrev S1x128x2048 : Shape := ⟨3, ![1, 128, 2048]⟩
abbrev S128x128 : Shape := ⟨2, ![128, 128]⟩
abbrev S8192x2048 : Shape := ⟨2, ![8192, 2048]⟩

abbrev nBuf : Space → Nat
  | .hbm => 165
  | .vmem => 75
  | .smem => 1
  | _ => 0

abbrev hbmTy0_0 (i : Nat) : BufTy := match i % 128 with
  | 0 => ⟨S2048x512, .f32⟩
  | 1 => ⟨S2x65536, .i32⟩
  | 2 => ⟨S128x512, .f32⟩
  | 3 => ⟨S32x1, .f32⟩
  | 4 => ⟨S32, .f32⟩
  | 5 => ⟨S64x32, .f32⟩
  | 6 => ⟨S64, .f32⟩
  | 7 => ⟨S32x64, .f32⟩
  | 8 => ⟨S32, .f32⟩
  | 9 => ⟨S4x32, .f32⟩
  | 10 => ⟨S4, .f32⟩
  | 11 => ⟨S1x65536, .i32⟩
  | 12 => ⟨S65536, .i32⟩
  | 13 => ⟨S1x65536, .i32⟩
  | 14 => ⟨S65536, .i32⟩
  | 15 => ⟨S_, .f32⟩
  | 16 => ⟨S2048x2048, .f32⟩
  | 17 => ⟨S_, .i32⟩
  | 18 => ⟨S65536, .i32⟩
  | 19 => ⟨S65536, .i1⟩
  | 20 => ⟨S_, .i32⟩
  | 21 => ⟨S65536, .i32⟩
  | 22 => ⟨S65536, .i32⟩
  | 23 => ⟨S65536, .i32⟩
  | 24 => ⟨S_, .i32⟩
  | 25 => ⟨S65536, .i32⟩
  | 26 => ⟨S65536, .i1⟩
  | 27 => ⟨S_, .i32⟩
  | 28 => ⟨S65536, .i32⟩
  | 29 => ⟨S65536, .i32⟩
  | 30 => ⟨S65536, .i32⟩
  | 31 => ⟨S65536x1, .i32⟩
  | 32 => ⟨S65536x1, .i32⟩
  | 33 => ⟨S65536x2, .i32⟩
  | 34 => ⟨S_, .f32⟩
  | 35 => ⟨S65536, .f32⟩
  | 36 => ⟨S2048x2048, .f32⟩
  | 37 => ⟨S2048x2048, .f32⟩
  | 38 => ⟨S2048x2048, .f32⟩
  | 39 => ⟨S_, .f32⟩
  | 40 => ⟨S2048, .f32⟩
  | 41 => ⟨S_, .f32⟩
  | 42 => ⟨S2048, .f32⟩
  | 43 => ⟨S2048, .i1⟩
  | 44 => ⟨S_, .f32⟩
  | 45 => ⟨S2048, .f32⟩
  | 46 => ⟨S2048, .f32⟩
  | 47 => ⟨S2048, .f32⟩
  | 48 => ⟨S_, .f32⟩
  | 49 => ⟨S2048, .f32⟩
  | 50 => ⟨S2048, .f32⟩
  | 51 => ⟨S_, .f32⟩
  | 52 => ⟨S_, .f32⟩
  | 53 => ⟨S2048, .f32⟩
  | 54 => ⟨S2048, .f32⟩
  | 55 => ⟨S2048x2048, .i32⟩
  | 56 => ⟨S2048x2048, .i32⟩
  | 57 => ⟨S_, .i32⟩
  | 58 => ⟨S2048x2048, .i32⟩
  | 59 => ⟨S2048x2048, .i32⟩
  | 60 => ⟨S2048x2048, .i1⟩
  | 61 => ⟨S2048x2048, .f32⟩
  | 62 => ⟨S2048x1, .f32⟩
  | 63 => ⟨S2048x2048, .f32⟩
  | 64 => ⟨S2048x2048, .f32⟩
  | 65 => ⟨S1x2048, .f32⟩
  | 66 => ⟨S2048x2048, .f32⟩
  | 67 => ⟨S2048x2048, .f32⟩
  | 68 => ⟨S2048x2048, .f32⟩
  | 69 => ⟨S9, .f32⟩
  | 70 => ⟨S_, .f32⟩
  | 71 => ⟨S9, .f32⟩
  | 72 => ⟨S9, .f32⟩
  | 73 => ⟨S_, .f32⟩
  | 74 => ⟨S9, .f32⟩
  | 75 => ⟨S9, .f32⟩
  | 76 => ⟨S_, .f32⟩
  | 77 => ⟨S9, .f32⟩
  | 78 => ⟨S9, .f32⟩
  | 79 => ⟨S9, .f32⟩
  | 80 => ⟨S_, .f32⟩
  | 81 => ⟨S9, .f32⟩
  | 82 => ⟨S9, .f32⟩
  | 83 => ⟨S_, .f32⟩
  | 84 => ⟨S9, .f32⟩
  | 85 => ⟨S9, .f32⟩
  | 86 => ⟨S9x1, .f32⟩
  | 87 => ⟨S1x32, .f32⟩
  | 88 => ⟨S9x32, .f32⟩
  | 89 => ⟨S1x32, .f32⟩
  | 90 => ⟨S9x32, .f32⟩
  | 91 => ⟨S9x32, .f32⟩
  | 92 => ⟨S_, .f32⟩
  | 93 => ⟨S9x32, .f32⟩
  | 94 => ⟨S9x32, .f32⟩
  | 95 => ⟨S32x64, .f32⟩
  | 96 => ⟨S9x64, .f32⟩
  | 97 => ⟨S1x64, .f32⟩
  | 98 => ⟨S9x64, .f32⟩
  | 99 => ⟨S9x64, .f32⟩
  | 100 => ⟨S_, .f32⟩
  | 101 => ⟨S9x64, .f32⟩
  | 102 => ⟨S9x64, .f32⟩
  | 103 => ⟨S64x32, .f32⟩
  | 104 => ⟨S9x32, .f32⟩
  | 105 => ⟨S1x32, .f32⟩
  | 106 => ⟨S9x32, .f32⟩
  | 107 => ⟨S9x32, .f32⟩
  | 108 => ⟨S_, .f32⟩
  | 109 => ⟨S9x32, .f32⟩
  | 110 => ⟨S9x32, .f32⟩
  | 111 => ⟨S32x4, .f32⟩
  | 112 => ⟨S9x4, .f32⟩
  | 113 => ⟨S1x4, .f32⟩
  | 114 => ⟨S9x4, .f32⟩
  | 115 => ⟨S9x4, .f32⟩
  | 116 => ⟨S_, .f32⟩
  | 117 => ⟨S9x4, .f32⟩
  | 118 => ⟨S9x4, .f32⟩
  | 119 => ⟨S9, .f32⟩
  | 120 => ⟨S9, .f32⟩
  | 121 => ⟨S9x1, .f32⟩
  | 122 => ⟨S_, .f32⟩
  | 123 => ⟨S9x1, .f32⟩
  | 124 => ⟨S9x1, .f32⟩
  | 125 => ⟨S1x9, .f32⟩
  | 126 => ⟨S_, .f32⟩
  | 127 => ⟨S1x9, .f32⟩
  | _ => ⟨S2048x512, .f32⟩

abbrev hbmTy0_1 (i : Nat) : BufTy := match i % 128 with
  | 0 => ⟨S1x9, .f32⟩
  | 1 => ⟨S9x9, .f32⟩
  | 2 => ⟨S9x9, .f32⟩
  | 3 => ⟨S9x9, .f32⟩
  | 4 => ⟨S_, .f32⟩
  | 5 => ⟨S9x9, .f32⟩
  | 6 => ⟨S9x9, .f32⟩
  | 7 => ⟨S9x9, .f32⟩
  | 8 => ⟨S9x9x1, .f32⟩
  | 9 => ⟨S1x9x4, .f32⟩
  | 10 => ⟨S9x9x4, .f32⟩
  | 11 => ⟨S9x9x4, .f32⟩
  | 12 => ⟨S9x9x4, .f32⟩
  | 13 => ⟨S_, .f32⟩
  | 14 => ⟨S9x4, .f32⟩
  | 15 => ⟨S_, .f32⟩
  | 16 => ⟨S9x4, .f32⟩
  | 17 => ⟨S9x4, .f32⟩
  | 18 => ⟨S512x128, .f32⟩
  | 19 => ⟨S2048x128, .f32⟩
  | 20 => ⟨S_, .f32⟩
  | 21 => ⟨S2048x2048, .f32⟩
  | 22 => ⟨S2048x2048, .f32⟩
  | 23 => ⟨S2048x2048, .f32⟩
  | 24 => ⟨S_, .f32⟩
  | 25 => ⟨S2048x2048, .f32⟩
  | 26 => ⟨S2048x2048, .f32⟩
  | 27 => ⟨S2048x2048, .f32⟩
  | 28 => ⟨S2048x2048, .f32⟩
  | 29 => ⟨S2048x2048, .f32⟩
  | 30 => ⟨S2048x2048, .f32⟩
  | 31 => ⟨S2048x2048, .f32⟩
  | 32 => ⟨S2048x2048, .f32⟩
  | 33 => ⟨S2048x2048, .f32⟩
  | 34 => ⟨S4x2048x2048, .f32⟩
  | 35 => ⟨S2048x512, .f32⟩
  | 36 => ⟨S8192x2048, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S512x128, .f32⟩
  | .local _ .vmem, ⟨3, _⟩ => ⟨S256x128, .f32⟩
  | .local _ .vmem, ⟨4, _⟩ => ⟨S256x128, .f32⟩
  | .local _ .vmem, ⟨5, _⟩ => ⟨S256x2048, .f32⟩
  | .local _ .vmem, ⟨6, _⟩ => ⟨S256x2048, .f32⟩
  | .local _ .vmem, ⟨7, _⟩ => ⟨S2048x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S2048x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S2048x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | .local _ .vmem, ⟨28, _⟩ => ⟨S2048x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S256x2048, .f32⟩
  | .local _ .vmem, ⟨33, _⟩ => ⟨S256x2048, .f32⟩
  | .local _ .vmem, ⟨34, _⟩ => ⟨S256x2048, .f32⟩
  | .local _ .vmem, ⟨35, _⟩ => ⟨S2048x2048, .f32⟩
  | .local _ .vmem, ⟨36, _⟩ => ⟨S256x2048, .f32⟩
  | .local _ .vmem, ⟨37, _⟩ => ⟨S256x2048, .f32⟩
  | .local _ .vmem, ⟨38, _⟩ => ⟨S256x2048, .f32⟩
  | .local _ .vmem, ⟨39, _⟩ => ⟨S256x2048, .f32⟩
  | .local _ .vmem, ⟨40, _⟩ => ⟨S256x2048, .f32⟩
  | .local _ .vmem, ⟨41, _⟩ => ⟨S256x2048, .f32⟩
  | .local _ .vmem, ⟨42, _⟩ => ⟨S2048x2048, .f32⟩
  | .local _ .vmem, ⟨43, _⟩ => ⟨S256x2048, .f32⟩
  | .local _ .vmem, ⟨44, _⟩ => ⟨S256x2048, .f32⟩
  | .local _ .vmem, ⟨45, _⟩ => ⟨S256x2048, .f32⟩
  | .local _ .vmem, ⟨46, _⟩ => ⟨S256x2048, .f32⟩
  | .local _ .vmem, ⟨47, _⟩ => ⟨S256x2048, .f32⟩
  | .local _ .vmem, ⟨48, _⟩ => ⟨S256x2048, .f32⟩
  | .local _ .vmem, ⟨49, _⟩ => ⟨S2048x2048, .f32⟩
  | .local _ .vmem, ⟨50, _⟩ => ⟨S256x2048, .f32⟩
  | .local _ .vmem, ⟨51, _⟩ => ⟨S256x2048, .f32⟩
  | .local _ .vmem, ⟨52, _⟩ => ⟨S256x2048, .f32⟩
  | .local _ .vmem, ⟨53, _⟩ => ⟨S256x2048, .f32⟩
  | .local _ .vmem, ⟨54, _⟩ => ⟨S128x2048, .f32⟩
  | .local _ .vmem, ⟨55, _⟩ => ⟨S128x2048, .f32⟩
  | .local _ .vmem, ⟨56, _⟩ => ⟨S128x2048, .f32⟩
  | .local _ .vmem, ⟨57, _⟩ => ⟨S128x2048, .f32⟩
  | .local _ .vmem, ⟨58, _⟩ => ⟨S128x2048, .f32⟩
  | .local _ .vmem, ⟨59, _⟩ => ⟨S128x2048, .f32⟩
  | .local _ .vmem, ⟨60, _⟩ => ⟨S128x2048, .f32⟩
  | .local _ .vmem, ⟨61, _⟩ => ⟨S128x2048, .f32⟩
  | .local _ .vmem, ⟨62, _⟩ => ⟨S128x2048, .f32⟩
  | .local _ .vmem, ⟨63, _⟩ => ⟨S128x2048, .f32⟩
  | .local _ .vmem, ⟨64, _⟩ => ⟨S128x2048, .f32⟩
  | .local _ .vmem, ⟨65, _⟩ => ⟨S128x2048, .f32⟩
  | .local _ .vmem, ⟨66, _⟩ => ⟨S128x2048, .f32⟩
  | .local _ .vmem, ⟨67, _⟩ => ⟨S128x2048, .f32⟩
  | .local _ .vmem, ⟨68, _⟩ => ⟨S128x2048, .f32⟩
  | .local _ .vmem, ⟨69, _⟩ => ⟨S128x2048, .f32⟩
  | .local _ .vmem, ⟨70, _⟩ => ⟨S2048x128, .f32⟩
  | .local _ .vmem, ⟨71, _⟩ => ⟨S4x128x2048, .f32⟩
  | .local _ .vmem, ⟨72, _⟩ => ⟨S4x128x2048, .f32⟩
  | .local _ .vmem, ⟨73, _⟩ => ⟨S128x512, .f32⟩
  | .local _ .vmem, ⟨74, _⟩ => ⟨S128x512, .f32⟩
  | .local _ .smem, ⟨0, _⟩ => ⟨S9x4, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .smem, ⟨0, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_call0_v0 : Ref sig .tc := ⟨.hbm, 52, rfl⟩
abbrev main_call0_v1 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_cst_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_13 : Ref sig .tc := ⟨.hbm, 80, rfl⟩
abbrev main_v52 : Ref sig .tc := ⟨.hbm, 81, rfl⟩
abbrev main_v53 : Ref sig .tc := ⟨.hbm, 82, rfl⟩
abbrev main_cst_14 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call1_cst : Ref sig .tc := ⟨.hbm, 92, rfl⟩
abbrev main_call1_v0 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_call2_cst : Ref sig .tc := ⟨.hbm, 100, rfl⟩
abbrev main_call2_v0 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_call3_cst : Ref sig .tc := ⟨.hbm, 108, rfl⟩
abbrev main_call3_v0 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call4_cst : Ref sig .tc := ⟨.hbm, 116, rfl⟩
abbrev main_call4_v0 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_15 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_17 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_18 : Ref sig .tc := ⟨.hbm, 141, rfl⟩
abbrev main_v100 : Ref sig .tc := ⟨.hbm, 142, rfl⟩
abbrev main_cst_19 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_20 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_21 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117_0 : Ref sig .tc := ⟨.hbm, 162, rfl⟩
abbrev main_v117_1 : Ref sig .tc := ⟨.hbm, 163, rfl⟩
abbrev main_v118 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg3_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc6_stg3_0 : Ref sig .tc := ⟨.vmem, 45, rfl⟩
abbrev cc6_stg3_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg2_1 : Ref sig .tc := ⟨.vmem, 51, rfl⟩
abbrev cc7_stg3_0 : Ref sig .tc := ⟨.vmem, 52, rfl⟩
abbrev cc7_stg3_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg1_1 : Ref sig .tc := ⟨.vmem, 57, rfl⟩
abbrev cc8_stg2_0 : Ref sig .tc := ⟨.vmem, 58, rfl⟩
abbrev cc8_stg2_1 : Ref sig .tc := ⟨.vmem, 59, rfl⟩
abbrev cc8_stg3_0 : Ref sig .tc := ⟨.vmem, 60, rfl⟩
abbrev cc8_stg3_1 : Ref sig .tc := ⟨.vmem, 61, rfl⟩
abbrev cc8_stg4_0 : Ref sig .tc := ⟨.vmem, 62, rfl⟩
abbrev cc8_stg4_1 : Ref sig .tc := ⟨.vmem, 63, rfl⟩
abbrev cc8_stg5_0 : Ref sig .tc := ⟨.vmem, 64, rfl⟩
abbrev cc8_stg5_1 : Ref sig .tc := ⟨.vmem, 65, rfl⟩
abbrev cc8_stg6_0 : Ref sig .tc := ⟨.vmem, 66, rfl⟩
abbrev cc8_stg6_1 : Ref sig .tc := ⟨.vmem, 67, rfl⟩
abbrev cc8_stg7_0 : Ref sig .tc := ⟨.vmem, 68, rfl⟩
abbrev cc8_stg7_1 : Ref sig .tc := ⟨.vmem, 69, rfl⟩
abbrev cc8_stg8_0 : Ref sig .tc := ⟨.vmem, 70, rfl⟩
abbrev cc8_stg10_0 : Ref sig .tc := ⟨.vmem, 71, rfl⟩
abbrev cc8_stg10_1 : Ref sig .tc := ⟨.vmem, 72, rfl⟩
abbrev cc8_stg11_0 : Ref sig .tc := ⟨.vmem, 73, rfl⟩
abbrev cc8_stg11_1 : Ref sig .tc := ⟨.vmem, 74, rfl⟩
abbrev cc8_stg9_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44
abbrev cc6_sem3_0 : DmaSem sig := 45
abbrev cc6_sem3_1 : DmaSem sig := 46
abbrev cc7_sem0_0 : DmaSem sig := 47
abbrev cc7_sem0_1 : DmaSem sig := 48
abbrev cc7_sem1_0 : DmaSem sig := 49
abbrev cc7_sem2_0 : DmaSem sig := 50
abbrev cc7_sem2_1 : DmaSem sig := 51
abbrev cc7_sem3_0 : DmaSem sig := 52
abbrev cc7_sem3_1 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem2_1 : DmaSem sig := 59
abbrev cc8_sem3_0 : DmaSem sig := 60
abbrev cc8_sem3_1 : DmaSem sig := 61
abbrev cc8_sem4_0 : DmaSem sig := 62
abbrev cc8_sem4_1 : DmaSem sig := 63
abbrev cc8_sem5_0 : DmaSem sig := 64
abbrev cc8_sem5_1 : DmaSem sig := 65
abbrev cc8_sem6_0 : DmaSem sig := 66
abbrev cc8_sem6_1 : DmaSem sig := 67
abbrev cc8_sem7_0 : DmaSem sig := 68
abbrev cc8_sem7_1 : DmaSem sig := 69
abbrev cc8_sem8_0 : DmaSem sig := 70
abbrev cc8_sem9_0 : DmaSem sig := 71
abbrev cc8_sem10_0 : DmaSem sig := 72
abbrev cc8_sem10_1 : DmaSem sig := 73
abbrev cc8_sem11_0 : DmaSem sig := 74
abbrev cc8_sem11_1 : DmaSem sig := 75

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def k1_off1 (i : grid1.Coords) : Fin 2 → Nat :=
  let arg0 : BitVec 32 := BitVec.ofNat 32 (i 0).val
  let c256_i32 : BitVec 32 := 256#32
  let v5 : BitVec 32 := Scalar.muli arg0 c256_i32
  let v6 : Index := Scalar.indexCast v5
  let c0_3 : Index := 0#32
  ![v6.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def k2_off1 (i : grid2.Coords) : Fin 2 → Nat :=
  let arg0 : BitVec 32 := BitVec.ofNat 32 (i 0).val
  let c256_i32 : BitVec 32 := 256#32
  let v5 : BitVec 32 := Scalar.muli arg0 c256_i32
  let v6 : Index := Scalar.indexCast v5
  let c0_3 : Index := 0#32
  ![v6.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def k3_off1 (i : grid3.Coords) : Fin 2 → Nat :=
  let arg0 : BitVec 32 := BitVec.ofNat 32 (i 0).val
  let c256_i32 : BitVec 32 := 256#32
  let v5 : BitVec 32 := Scalar.muli arg0 c256_i32
  let v6 : Index := Scalar.indexCast v5
  let c0_3 : Index := 0#32
  ![v6.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def k4_off1 (i : grid4.Coords) : Fin 2 → Nat :=
  let arg0 : BitVec 32 := BitVec.ofNat 32 (i 0).val
  let c256_i32 : BitVec 32 := 256#32
  let v5 : BitVec 32 := Scalar.muli arg0 c256_i32
  let v6 : Index := Scalar.indexCast v5
  let c0_3 : Index := 0#32
  ![v6.toNat, 0]
def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def k5_off1 (i : grid5.Coords) : Fin 2 → Nat :=
  let arg0 : BitVec 32 := BitVec.ofNat 32 (i 0).val
  let c256_i32 : BitVec 32 := 256#32
  let v5 : BitVec 32 := Scalar.muli arg0 c256_i32
  let v6 : Index := Scalar.indexCast v5
  let c0_3 : Index := 0#32
  ![v6.toNat, 0]
def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def k6_off1 (i : grid6.Coords) : Fin 2 → Nat :=
  let arg0 : BitVec 32 := BitVec.ofNat 32 (i 0).val
  let c256_i32 : BitVec 32 := 256#32
  let v5 : BitVec 32 := Scalar.muli arg0 c256_i32
  let v6 : Index := Scalar.indexCast v5
  let c0_3 : Index := 0#32
  ![v6.toNat, 0]
def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x2048 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2048x2048 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S256x2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S256x2048 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![8], ![false]⟩

def k7_off1 (i : grid7.Coords) : Fin 2 → Nat :=
  let arg0 : BitVec 32 := BitVec.ofNat 32 (i 0).val
  let c256_i32 : BitVec 32 := 256#32
  let v5 : BitVec 32 := Scalar.muli arg0 c256_i32
  let v6 : Index := Scalar.indexCast v5
  let c0_3 : Index := 0#32
  ![v6.toNat, 0]
def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2048x2048 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S256x2048 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S256x2048 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![16], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S128x2048 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S128x2048 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S128x2048 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S128x2048 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S128x2048 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S128x2048 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S128x2048 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S128x2048 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 1 → Memref sig .tc .vmem S2048x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .smem S9x4 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 2 → Memref sig .tc .vmem S4x128x2048 .f32 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true]

abbrev stage8_11 : Fin 2 → Memref sig .tc .vmem S128x512 .f32 := fun | 0 => Memref.whole cc8_stg11_0 | 1 => Memref.whole cc8_stg11_1 | ⟨_ + 2, h⟩ => absurd h (Nat.not_lt.2 (Nat.le_add_left _ _))
abbrev sem8_11 : Fin 2 → DmaSem sig := fun | 0 => cc8_sem11_0 | 1 => cc8_sem11_1 | ⟨_ + 2, h⟩ => absurd h (Nat.not_lt.2 (Nat.le_add_left _ _))
abbrev reads8_11 : Fin grid8.rank → Bool := ![true]
-- ==== KernelIdeal.lean ====
variable {F : FTy → Type} [FloatOps F] [Named F]
def κ : String → Option EReal := fun
  | "mask" => some ⊥
  | _ => none
-- ==== ReferenceIdeal.lean ====
abbrev S2048x512 : Shape := ⟨2, ![2048, 512]⟩
abbrev S2x65536 : Shape := ⟨2, ![2, 65536]⟩
abbrev S128x512 : Shape := ⟨2, ![128, 512]⟩
abbrev S32x1 : Shape := ⟨2, ![32, 1]⟩
abbrev S32 : Shape := ⟨1, ![32]⟩
abbrev S64x32 : Shape := ⟨2, ![64, 32]⟩
abbrev S64 : Shape := ⟨1, ![64]⟩
abbrev S32x64 : Shape := ⟨2, ![32, 64]⟩
abbrev S4x32 : Shape := ⟨2, ![4, 32]⟩
abbrev S4 : Shape := ⟨1, ![4]⟩
abbrev S512x128 : Shape := ⟨2, ![512, 128]⟩
abbrev S2048x128 : Shape := ⟨2, ![2048, 128]⟩
abbrev S1x65536 : Shape := ⟨2, ![1, 65536]⟩
abbrev S65536 : Shape := ⟨1, ![65536]⟩
abbrev S_ : Shape := ⟨0, ![]⟩
abbrev S2048x2048 : Shape := ⟨2, ![2048, 2048]⟩
abbrev S65536x1 : Shape := ⟨2, ![65536, 1]⟩
abbrev S65536x2 : Shape := ⟨2, ![65536, 2]⟩
abbrev S2048 : Shape := ⟨1, ![2048]⟩
abbrev S2048x1 : Shape := ⟨2, ![2048, 1]⟩
abbrev S1x2048 : Shape := ⟨2, ![1, 2048]⟩
abbrev S9 : Shape := ⟨1, ![9]⟩
abbrev S9x1 : Shape := ⟨2, ![9, 1]⟩
abbrev S1x32 : Shape := ⟨2, ![1, 32]⟩
abbrev S9x32 : Shape := ⟨2, ![9, 32]⟩
abbrev S9x64 : Shape := ⟨2, ![9, 64]⟩
abbrev S1x64 : Shape := ⟨2, ![1, 64]⟩
abbrev S32x4 : Shape := ⟨2, ![32, 4]⟩
abbrev S9x4 : Shape := ⟨2, ![9, 4]⟩
abbrev S1x4 : Shape := ⟨2, ![1, 4]⟩
abbrev S1x9 : Shape := ⟨2, ![1, 9]⟩
abbrev S9x9 : Shape := ⟨2, ![9, 9]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S8192x2048 : Shape := ⟨2, ![8192, 2048]⟩
abbrev S8192x5 : Shape := ⟨2, ![8192, 5]⟩
abbrev S8192 : Shape := ⟨1, ![8192]⟩
abbrev S8192x1 : Shape := ⟨2, ![8192, 1]⟩
abbrev S8192x5x1 : Shape := ⟨3, ![8192, 5, 1]⟩
abbrev S8192x5x2 : Shape := ⟨3, ![8192, 5, 2]⟩
abbrev S8192x128 : Shape := ⟨2, ![8192, 128]⟩
abbrev S4x2048x128 : Shape := ⟨3, ![4, 2048, 128]⟩
abbrev S2048x4x128 : Shape := ⟨3, ![2048, 4, 128]⟩

abbrev nBuf : Space → Nat
  | .hbm => 330
  | .vmem => 0
  | .smem => 0
  | _ => 0

abbrev hbmTy0_0 (i : Nat) : BufTy := match i % 128 with
  | 0 => ⟨S2048x512, .f32⟩
  | 1 => ⟨S2x65536, .i32⟩
  | 2 => ⟨S128x512, .f32⟩
  | 3 => ⟨S32x1, .f32⟩
  | 4 => ⟨S32, .f32⟩
  | 5 => ⟨S64x32, .f32⟩
  | 6 => ⟨S64, .f32⟩
  | 7 => ⟨S32x64, .f32⟩
  | 8 => ⟨S32, .f32⟩
  | 9 => ⟨S4x32, .f32⟩
  | 10 => ⟨S4, .f32⟩
  | 11 => ⟨S512x128, .f32⟩
  | 12 => ⟨S2048x128, .f32⟩
  | 13 => ⟨S1x65536, .i32⟩
  | 14 => ⟨S65536, .i32⟩
  | 15 => ⟨S1x65536, .i32⟩
  | 16 => ⟨S65536, .i32⟩
  | 17 => ⟨S_, .f32⟩
  | 18 => ⟨S2048x2048, .f32⟩
  | 19 => ⟨S_, .i32⟩
  | 20 => ⟨S65536, .i32⟩
  | 21 => ⟨S65536, .i1⟩
  | 22 => ⟨S_, .i32⟩
  | 23 => ⟨S65536, .i32⟩
  | 24 => ⟨S65536, .i32⟩
  | 25 => ⟨S65536, .i32⟩
  | 26 => ⟨S_, .i32⟩
  | 27 => ⟨S65536, .i32⟩
  | 28 => ⟨S65536, .i1⟩
  | 29 => ⟨S_, .i32⟩
  | 30 => ⟨S65536, .i32⟩
  | 31 => ⟨S65536, .i32⟩
  | 32 => ⟨S65536, .i32⟩
  | 33 => ⟨S65536x1, .i32⟩
  | 34 => ⟨S65536x1, .i32⟩
  | 35 => ⟨S65536x2, .i32⟩
  | 36 => ⟨S_, .f32⟩
  | 37 => ⟨S65536, .f32⟩
  | 38 => ⟨S2048x2048, .f32⟩
  | 39 => ⟨S2048x2048, .f32⟩
  | 40 => ⟨S2048x2048, .f32⟩
  | 41 => ⟨S_, .f32⟩
  | 42 => ⟨S2048, .f32⟩
  | 43 => ⟨S_, .f32⟩
  | 44 => ⟨S2048, .f32⟩
  | 45 => ⟨S2048, .i1⟩
  | 46 => ⟨S_, .f32⟩
  | 47 => ⟨S2048, .f32⟩
  | 48 => ⟨S2048, .f32⟩
  | 49 => ⟨S2048, .f32⟩
  | 50 => ⟨S_, .f32⟩
  | 51 => ⟨S2048, .f32⟩
  | 52 => ⟨S2048, .f32⟩
  | 53 => ⟨S_, .f32⟩
  | 54 => ⟨S_, .f32⟩
  | 55 => ⟨S2048, .f32⟩
  | 56 => ⟨S2048, .f32⟩
  | 57 => ⟨S2048x2048, .i32⟩
  | 58 => ⟨S2048x2048, .i32⟩
  | 59 => ⟨S_, .i32⟩
  | 60 => ⟨S2048x2048, .i32⟩
  | 61 => ⟨S2048x2048, .i32⟩
  | 62 => ⟨S2048x2048, .i1⟩
  | 63 => ⟨S2048x2048, .f32⟩
  | 64 => ⟨S2048x1, .f32⟩
  | 65 => ⟨S2048x2048, .f32⟩
  | 66 => ⟨S2048x2048, .f32⟩
  | 67 => ⟨S1x2048, .f32⟩
  | 68 => ⟨S2048x2048, .f32⟩
  | 69 => ⟨S2048x2048, .f32⟩
  | 70 => ⟨S2048x2048, .f32⟩
  | 71 => ⟨S9, .f32⟩
  | 72 => ⟨S_, .f32⟩
  | 73 => ⟨S9, .f32⟩
  | 74 => ⟨S9, .f32⟩
  | 75 => ⟨S_, .f32⟩
  | 76 => ⟨S9, .f32⟩
  | 77 => ⟨S9, .f32⟩
  | 78 => ⟨S_, .f32⟩
  | 79 => ⟨S9, .f32⟩
  | 80 => ⟨S9, .f32⟩
  | 81 => ⟨S9, .f32⟩
  | 82 => ⟨S_, .f32⟩
  | 83 => ⟨S9, .f32⟩
  | 84 => ⟨S9, .f32⟩
  | 85 => ⟨S_, .f32⟩
  | 86 => ⟨S9, .f32⟩
  | 87 => ⟨S9, .f32⟩
  | 88 => ⟨S9x1, .f32⟩
  | 89 => ⟨S1x32, .f32⟩
  | 90 => ⟨S9x32, .f32⟩
  | 91 => ⟨S1x32, .f32⟩
  | 92 => ⟨S9x32, .f32⟩
  | 93 => ⟨S9x32, .f32⟩
  | 94 => ⟨S_, .f32⟩
  | 95 => ⟨S9x32, .f32⟩
  | 96 => ⟨S9x32, .f32⟩
  | 97 => ⟨S32x64, .f32⟩
  | 98 => ⟨S9x64, .f32⟩
  | 99 => ⟨S1x64, .f32⟩
  | 100 => ⟨S9x64, .f32⟩
  | 101 => ⟨S9x64, .f32⟩
  | 102 => ⟨S_, .f32⟩
  | 103 => ⟨S9x64, .f32⟩
  | 104 => ⟨S9x64, .f32⟩
  | 105 => ⟨S64x32, .f32⟩
  | 106 => ⟨S9x32, .f32⟩
  | 107 => ⟨S1x32, .f32⟩
  | 108 => ⟨S9x32, .f32⟩
  | 109 => ⟨S9x32, .f32⟩
  | 110 => ⟨S_, .f32⟩
  | 111 => ⟨S9x32, .f32⟩
  | 112 => ⟨S9x32, .f32⟩
  | 113 => ⟨S32x4, .f32⟩
  | 114 => ⟨S9x4, .f32⟩
  | 115 => ⟨S1x4, .f32⟩
  | 116 => ⟨S9x4, .f32⟩
  | 117 => ⟨S9x4, .f32⟩
  | 118 => ⟨S_, .f32⟩
  | 119 => ⟨S9x4, .f32⟩
  | 120 => ⟨S9x4, .f32⟩
  | 121 => ⟨S9, .f32⟩
  | 122 => ⟨S9, .f32⟩
  | 123 => ⟨S9x1, .f32⟩
  | 124 => ⟨S_, .f32⟩
  | 125 => ⟨S9x1, .f32⟩
  | 126 => ⟨S9x1, .f32⟩
  | 127 => ⟨S1x9, .f32⟩
  | _ => ⟨S2048x512, .f32⟩

abbrev hbmTy0_1 (i : Nat) : BufTy := match i % 128 with
  | 0 => ⟨S_, .f32⟩
  | 1 => ⟨S1x9, .f32⟩
  | 2 => ⟨S1x9, .f32⟩
  | 3 => ⟨S9x9, .f32⟩
  | 4 => ⟨S9x9, .f32⟩
  | 5 => ⟨S9x9, .f32⟩
  | 6 => ⟨S_, .f32⟩
  | 7 => ⟨S9x9, .f32⟩
  | 8 => ⟨S9x9, .f32⟩
  | 9 => ⟨S9x9, .f32⟩
  | 10 => ⟨S9x4, .f32⟩
  | 11 => ⟨S_, .f32⟩
  | 12 => ⟨S9x4, .f32⟩
  | 13 => ⟨S9x4, .f32⟩
  | 14 => ⟨S_, .f32⟩
  | 15 => ⟨S2048x2048, .f32⟩
  | 16 => ⟨S2048x2048, .f32⟩
  | 17 => ⟨S2048x2048, .f32⟩
  | 18 => ⟨S_, .f32⟩
  | 19 => ⟨S2048x2048, .f32⟩
  | 20 => ⟨S2048x2048, .f32⟩
  | 21 => ⟨S1x4, .f32⟩
  | 22 => ⟨S4, .f32⟩
  | 23 => ⟨S4x1x1, .f32⟩
  | 24 => ⟨S_, .f32⟩
  | 25 => ⟨S4x1x1, .f32⟩
  | 26 => ⟨S4x1x1, .f32⟩
  | 27 => ⟨S1x2048x2048, .f32⟩
  | 28 => ⟨S4x2048x2048, .f32⟩
  | 29 => ⟨S4x2048x2048, .f32⟩
  | 30 => ⟨S4x2048x2048, .f32⟩
  | 31 => ⟨S1x4, .f32⟩
  | 32 => ⟨S4, .f32⟩
  | 33 => ⟨S4x1x1, .f32⟩
  | 34 => ⟨S1x2048x2048, .f32⟩
  | 35 => ⟨S4x2048x2048, .f32⟩
  | 36 => ⟨S4x2048x2048, .f32⟩
  | 37 => ⟨S4x2048x2048, .f32⟩
  | 38 => ⟨S4x2048x2048, .f32⟩
  | 39 => ⟨S2048x2048, .f32⟩
  | 40 => ⟨S_, .f32⟩
  | 41 => ⟨S2048x2048, .f32⟩
  | 42 => ⟨S2048x2048, .f32⟩
  | 43 => ⟨S2048x2048, .f32⟩
  | 44 => ⟨S_, .f32⟩
  | 45 => ⟨S2048x2048, .f32⟩
  | 46 => ⟨S2048x2048, .f32⟩
  | 47 => ⟨S2048x2048, .f32⟩
  | 48 => ⟨S1x4, .f32⟩
  | 49 => ⟨S4, .f32⟩
  | 50 => ⟨S4x1x1, .f32⟩
  | 51 => ⟨S1x2048x2048, .f32⟩
  | 52 => ⟨S4x2048x2048, .f32⟩
  | 53 => ⟨S4x2048x2048, .f32⟩
  | 54 => ⟨S4x2048x2048, .f32⟩
  | 55 => ⟨S4x2048x2048, .f32⟩
  | 56 => ⟨S2048x2048, .f32⟩
  | 57 => ⟨S_, .f32⟩
  | 58 => ⟨S2048x2048, .f32⟩
  | 59 => ⟨S2048x2048, .f32⟩
  | 60 => ⟨S2048x2048, .f32⟩
  | 61 => ⟨S_, .f32⟩
  | 62 => ⟨S2048x2048, .f32⟩
  | 63 => ⟨S2048x2048, .f32⟩
  | 64 => ⟨S2048x2048, .f32⟩
  | 65 => ⟨S1x4, .f32⟩
  | 66 => ⟨S4, .f32⟩
  | 67 => ⟨S4x1x1, .f32⟩
  | 68 => ⟨S1x2048x2048, .f32⟩
  | 69 => ⟨S4x2048x2048, .f32⟩
  | 70 => ⟨S4x2048x2048, .f32⟩
  | 71 => ⟨S4x2048x2048, .f32⟩
  | 72 => ⟨S4x2048x2048, .f32⟩
  | 73 => ⟨S2048x2048, .f32⟩
  | 74 => ⟨S_, .f32⟩
  | 75 => ⟨S2048x2048, .f32⟩
  | 76 => ⟨S2048x2048, .f32⟩
  | 77 => ⟨S2048x2048, .f32⟩
  | 78 => ⟨S_, .f32⟩
  | 79 => ⟨S2048x2048, .f32⟩
  | 80 => ⟨S2048x2048, .f32⟩
  | 81 => ⟨S2048x2048, .f32⟩
  | 82 => ⟨S1x4, .f32⟩
  | 83 => ⟨S4, .f32⟩
  | 84 => ⟨S4x1x1, .f32⟩
  | 85 => ⟨S1x2048x2048, .f32⟩
  | 86 => ⟨S4x2048x2048, .f32⟩
  | 87 => ⟨S4x2048x2048, .f32⟩
  | 88 => ⟨S4x2048x2048, .f32⟩
  | 89 => ⟨S4x2048x2048, .f32⟩
  | 90 => ⟨S2048x2048, .f32⟩
  | 91 => ⟨S_, .f32⟩
  | 92 => ⟨S2048x2048, .f32⟩
  | 93 => ⟨S2048x2048, .f32⟩
  | 94 => ⟨S2048x2048, .f32⟩
  | 95 => ⟨S_, .f32⟩
  | 96 => ⟨S2048x2048, .f32⟩
  | 97 => ⟨S2048x2048, .f32⟩
  | 98 => ⟨S2048x2048, .f32⟩
  | 99 => ⟨S1x4, .f32⟩
  | 100 => ⟨S4, .f32⟩
  | 101 => ⟨S4x1x1, .f32⟩
  | 102 => ⟨S1x2048x2048, .f32⟩
  | 103 => ⟨S4x2048x2048, .f32⟩
  | 104 => ⟨S4x2048x2048, .f32⟩
  | 105 => ⟨S4x2048x2048, .f32⟩
  | 106 => ⟨S4x2048x2048, .f32⟩
  | 107 => ⟨S2048x2048, .f32⟩
  | 108 => ⟨S_, .f32⟩
  | 109 => ⟨S2048x2048, .f32⟩
  | 110 => ⟨S2048x2048, .f32⟩
  | 111 => ⟨S2048x2048, .f32⟩
  | 112 => ⟨S_, .f32⟩
  | 113 => ⟨S2048x2048, .f32⟩
  | 114 => ⟨S2048x2048, .f32⟩
  | 115 => ⟨S2048x2048, .f32⟩
  | 116 => ⟨S1x4, .f32⟩
  | 117 => ⟨S4, .f32⟩
  | 118 => ⟨S4x1x1, .f32⟩
  | 119 => ⟨S1x2048x2048, .f32⟩
  | 120 => ⟨S4x2048x2048, .f32⟩
  | 121 => ⟨S4x2048x2048, .f32⟩
  | 122 => ⟨S4x2048x2048, .f32⟩
  | 123 => ⟨S4x2048x2048, .f32⟩
  | 124 => ⟨S2048x2048, .f32⟩
  | 125 => ⟨S_, .f32⟩
  | 126 => ⟨S2048x2048, .f32⟩
  | 127 => ⟨S2048x2048, .f32⟩
  | _ => ⟨S2048x512, .f32⟩

abbrev hbmTy0_2 (i : Nat) : BufTy := match i % 128 with
  | 0 => ⟨S2048x2048, .f32⟩
  | 1 => ⟨S_, .f32⟩
  | 2 => ⟨S2048x2048, .f32⟩
  | 3 => ⟨S2048x2048, .f32⟩
  | 4 => ⟨S2048x2048, .f32⟩
  | 5 => ⟨S1x4, .f32⟩
  | 6 => ⟨S4, .f32⟩
  | 7 => ⟨S4x1x1, .f32⟩
  | 8 => ⟨S1x2048x2048, .f32⟩
  | 9 => ⟨S4x2048x2048, .f32⟩
  | 10 => ⟨S4x2048x2048, .f32⟩
  | 11 => ⟨S4x2048x2048, .f32⟩
  | 12 => ⟨S4x2048x2048, .f32⟩
  | 13 => ⟨S2048x2048, .f32⟩
  | 14 => ⟨S_, .f32⟩
  | 15 => ⟨S2048x2048, .f32⟩
  | 16 => ⟨S2048x2048, .f32⟩
  | 17 => ⟨S2048x2048, .f32⟩
  | 18 => ⟨S_, .f32⟩
  | 19 => ⟨S2048x2048, .f32⟩
  | 20 => ⟨S2048x2048, .f32⟩
  | 21 => ⟨S2048x2048, .f32⟩
  | 22 => ⟨S1x4, .f32⟩
  | 23 => ⟨S4, .f32⟩
  | 24 => ⟨S4x1x1, .f32⟩
  | 25 => ⟨S1x2048x2048, .f32⟩
  | 26 => ⟨S4x2048x2048, .f32⟩
  | 27 => ⟨S4x2048x2048, .f32⟩
  | 28 => ⟨S4x2048x2048, .f32⟩
  | 29 => ⟨S4x2048x2048, .f32⟩
  | 30 => ⟨S8192x2048, .f32⟩
  | 31 => ⟨S8192x5, .f32⟩
  | 32 => ⟨S8192x5, .i32⟩
  | 33 => ⟨S_, .f32⟩
  | 34 => ⟨S8192x2048, .f32⟩
  | 35 => ⟨S8192, .i32⟩
  | 36 => ⟨S8192x1, .i32⟩
  | 37 => ⟨S_, .i32⟩
  | 38 => ⟨S8192x1, .i32⟩
  | 39 => ⟨S8192x1, .i1⟩
  | 40 => ⟨S_, .i32⟩
  | 41 => ⟨S8192x1, .i32⟩
  | 42 => ⟨S8192x1, .i32⟩
  | 43 => ⟨S8192x1, .i32⟩
  | 44 => ⟨S_, .i32⟩
  | 45 => ⟨S8192x5, .i32⟩
  | 46 => ⟨S8192x5, .i1⟩
  | 47 => ⟨S_, .i32⟩
  | 48 => ⟨S8192x5, .i32⟩
  | 49 => ⟨S8192x5, .i32⟩
  | 50 => ⟨S8192x5, .i32⟩
  | 51 => ⟨S8192x5, .i32⟩
  | 52 => ⟨S8192x5x1, .i32⟩
  | 53 => ⟨S8192x5x1, .i32⟩
  | 54 => ⟨S8192x5x2, .i32⟩
  | 55 => ⟨S8192x2048, .f32⟩
  | 56 => ⟨S_, .f32⟩
  | 57 => ⟨S8192, .f32⟩
  | 58 => ⟨S_, .f32⟩
  | 59 => ⟨S8192, .f32⟩
  | 60 => ⟨S8192, .f32⟩
  | 61 => ⟨S8192x1, .f32⟩
  | 62 => ⟨S8192x2048, .f32⟩
  | 63 => ⟨S8192x2048, .f32⟩
  | 64 => ⟨S8192x2048, .f32⟩
  | 65 => ⟨S_, .f32⟩
  | 66 => ⟨S8192, .f32⟩
  | 67 => ⟨S8192x1, .f32⟩
  | 68 => ⟨S8192x2048, .f32⟩
  | 69 => ⟨S8192x2048, .f32⟩
  | 70 => ⟨S8192x128, .f32⟩
  | 71 => ⟨S4x2048x128, .f32⟩
  | 72 => ⟨S2048x4x128, .f32⟩
  | 73 => ⟨S2048x512, .f32⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_call0_v0 : Ref sig .tc := ⟨.hbm, 54, rfl⟩
abbrev main_call0_v1 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_13 : Ref sig .tc := ⟨.hbm, 82, rfl⟩
abbrev main_v54 : Ref sig .tc := ⟨.hbm, 83, rfl⟩
abbrev main_v55 : Ref sig .tc := ⟨.hbm, 84, rfl⟩
abbrev main_cst_14 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call1_cst : Ref sig .tc := ⟨.hbm, 94, rfl⟩
abbrev main_call1_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call2_cst : Ref sig .tc := ⟨.hbm, 102, rfl⟩
abbrev main_call2_v0 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_call3_cst : Ref sig .tc := ⟨.hbm, 110, rfl⟩
abbrev main_call3_v0 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_call4_cst : Ref sig .tc := ⟨.hbm, 118, rfl⟩
abbrev main_call4_v0 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_15 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_16 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_17 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_18 : Ref sig .tc := ⟨.hbm, 139, rfl⟩
abbrev main_v98 : Ref sig .tc := ⟨.hbm, 140, rfl⟩
abbrev main_v99 : Ref sig .tc := ⟨.hbm, 141, rfl⟩
abbrev main_cst_19 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_20 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_21 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_22 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_23 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_24 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_25 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_cst_26 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_27 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_cst_28 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_cst_29 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_cst_30 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_cst_31 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_cst_32 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_cst_33 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_cst_34 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_cst_35 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_values : Ref sig .tc := ⟨.hbm, 287, rfl⟩
abbrev main_indices : Ref sig .tc := ⟨.hbm, 288, rfl⟩
abbrev main_cst_36 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_c_37 : Ref sig .tc := ⟨.hbm, 293, rfl⟩
abbrev main_v231 : Ref sig .tc := ⟨.hbm, 294, rfl⟩
abbrev main_v232 : Ref sig .tc := ⟨.hbm, 295, rfl⟩
abbrev main_c_38 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_c_39 : Ref sig .tc := ⟨.hbm, 300, rfl⟩
abbrev main_v236 : Ref sig .tc := ⟨.hbm, 301, rfl⟩
abbrev main_v237 : Ref sig .tc := ⟨.hbm, 302, rfl⟩
abbrev main_c_40 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_v241 : Ref sig .tc := ⟨.hbm, 307, rfl⟩
abbrev main_v242 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_cst_41 : Ref sig .tc := ⟨.hbm, 312, rfl⟩
abbrev main_v246 : Ref sig .tc := ⟨.hbm, 313, rfl⟩
abbrev main_cst_42 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_cst_43 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩

abbrev nD : Nat := 1
abbrev τ : Topo := Topo.v7x

variable {F : FTy → Type} [FloatOps F]
-- ==== Proof.RowPick.lean ====
/- The five greatest entries of a row, first index first among equal ones.

   A row is a function `a : Fin n → EReal`. The stable sort of its positions by decreasing value, `place a : Fin n → Fin n`,
   lists the row's positions; `place a r` is the position of its `r`-th greatest entry. Taking the row's maximum, the first
   position that holds it, and overwriting that position by minus infinity, again and again, visits the positions
   `place a 0`, `place a 1`, … of a row with no entry minus infinity. -/
module

public import Idealize.ShloMosaic.Lib.SortFacts
public import Idealize.ShloMosaic.PureOps
public import Idealize.ShloMosaic.PureOps.Reduce
public import Idealize.ShloMosaic.PureOps.Ideal.Laws

@[expose] public section

noncomputable section

namespace Cert.Attn

open Idealize.ShloMosaic

variable {n : ℕ}

/-- Position `i` comes before position `j`: a greater entry, or an equal entry at a smaller index. -/
def Before (a : Fin n → EReal) (i j : Fin n) : Prop := a j < a i ∨ (a i = a j ∧ i < j)

/-- Coming before is transitive. -/
theorem Before.trans {a : Fin n → EReal} {i j k : Fin n} (h₁ : Before a i j) (h₂ : Before a j k) : Before a i k := by
  rcases h₁ with h₁ | ⟨e₁, h₁⟩ <;> rcases h₂ with h₂ | ⟨e₂, h₂⟩
  · exact Or.inl (h₂.trans h₁)
  · exact Or.inl (e₂ ▸ h₁)
  · exact Or.inl (e₁ ▸ h₂)
  · exact Or.inr ⟨e₁.trans e₂, h₁.trans h₂⟩

/-- An entry strictly greater. -/
def greater (a : Fin n → EReal) (i j : Fin n) : Bool := decide (a j < a i)

/-- Inserting a position smaller than those of an ordered list keeps the list ordered. -/
theorem ordered_insert (a : Fin n → EReal) (i : Fin n) (l : List (Fin n)) (hi : ∀ j ∈ l, i < j) (hl : l.Pairwise (Before a)) :
    (insertBefore (greater a) i l).Pairwise (Before a) := by
  induction l with
  | nil => exact List.pairwise_singleton _ _
  | cons j l ih =>
    rw [List.pairwise_cons] at hl
    unfold insertBefore
    split
    · rename_i hg
      have hg' : a i < a j := by simpa [greater] using hg
      rw [List.pairwise_cons]
      refine ⟨fun k hk => ?_, ih (fun k hk => hi k (List.mem_cons_of_mem _ hk)) hl.2⟩
      rcases List.mem_cons.1 ((perm_insertBefore (greater a) i l).mem_iff.1 hk) with rfl | hk
      · exact Or.inl hg'
      · exact hl.1 k hk
    · rename_i hg
      have hg' : a j ≤ a i := by simpa [greater] using hg
      have hij : Before a i j := by
        rcases lt_or_eq_of_le hg' with h | h
        · exact Or.inl h
        · exact Or.inr ⟨h.symm, hi j List.mem_cons_self⟩
      rw [List.pairwise_cons, List.pairwise_cons]
      refine ⟨fun k hk => ?_, hl⟩
      rcases List.mem_cons.1 hk with rfl | hk
      · exact hij
      · exact hij.trans (hl.1 k hk)

/-- The stable sort of an increasing list of positions is ordered. -/
theorem ordered_sort (a : Fin n → EReal) (l : List (Fin n)) (hl : l.Pairwise (· < ·)) : (stableSort (greater a) l).Pairwise (Before a) := by
  induction l with
  | nil => exact List.Pairwise.nil
  | cons i l ih =>
    rw [List.pairwise_cons] at hl
    unfold stableSort
    exact ordered_insert a i _ (fun j hj => hl.1 j ((perm_stableSort (greater a) l).mem_iff.1 hj)) (ih hl.2)

/-- The position of the row's `r`-th greatest entry, the first of equal ones first. -/
def place (a : Fin n → EReal) : Fin n → Fin n := sortedFrom (greater a)

/-- Places come one before the other. -/
theorem place_before (a : Fin n → EReal) {r s : Fin n} (h : r < s) : Before a (place a r) (place a s) := by
  have hp := List.pairwise_iff_get.1 (ordered_sort a (List.finRange n) (List.pairwise_lt_finRange n))
  exact hp (r.cast (length_sortPositions n (greater a)).symm) (s.cast (length_sortPositions n (greater a)).symm) h

/-- No two places are the same position. -/
theorem place_injective (a : Fin n → EReal) : Function.Injective (place a) := sortedFrom_injective _

/-- Every position is some place. -/
theorem place_surjective (a : Fin n → EReal) : Function.Surjective (place a) := sortedFrom_surjective _

/-- Places hold the row's entries in decreasing order. -/
theorem place_antitone (a : Fin n → EReal) {r s : Fin n} (h : r ≤ s) : a (place a s) ≤ a (place a r) := by
  rcases lt_or_eq_of_le h with h | rfl
  · rcases place_before a h with h | ⟨h, -⟩
    · exact h.le
    · exact h.ge
  · exact le_rfl

/-- Position `j` is one of the first `r` places. -/
def Picked (a : Fin n → EReal) (r : ℕ) (j : Fin n) : Prop := ∃ k : Fin n, k.val < r ∧ place a k = j

/-- Place `k` is among the first `r` exactly when `k < r`. -/
theorem picked_place (a : Fin n → EReal) (r : ℕ) (k : Fin n) : Picked a r (place a k) ↔ k.val < r :=
  ⟨fun ⟨_, h, e⟩ => place_injective a e ▸ h, fun h => ⟨k, h, rfl⟩⟩

/-- One more place picked is the next place. -/
theorem picked_succ (a : Fin n → EReal) (r : Fin n) (j : Fin n) : Picked a (r.val + 1) j ↔ j = place a r ∨ Picked a r.val j := by
  obtain ⟨k, rfl⟩ := place_surjective a j
  rw [picked_place, picked_place, (place_injective a).eq_iff, Fin.ext_iff]
  omega

/-- Nothing is among the first zero places. -/
theorem not_picked_zero (a : Fin n → EReal) (j : Fin n) : ¬ Picked a 0 j := fun ⟨_, h, _⟩ => absurd h (Nat.not_lt_zero _)

open Classical in
/-- The row with its first `r` places overwritten by minus infinity. -/
def rest (a : Fin n → EReal) (r : ℕ) (j : Fin n) : EReal := if Picked a r j then ⊥ else a j

/-- With nothing overwritten the row is itself. -/
theorem rest_zero (a : Fin n → EReal) : rest a 0 = a := funext fun j => if_neg (not_picked_zero a j)

/-- The next place is not overwritten yet. -/
theorem rest_place (a : Fin n → EReal) (r : Fin n) : rest a r.val (place a r) = a (place a r) :=
  if_neg fun h => absurd ((picked_place a r.val r).1 h) (lt_irrefl _)

open Classical in
/-- Overwriting the next place. -/
theorem rest_succ (a : Fin n → EReal) (r : Fin n) (j : Fin n) : rest a (r.val + 1) j = if j = place a r then ⊥ else rest a r.val j := by
  unfold rest
  by_cases h : j = place a r
  · rw [if_pos h, if_pos ((picked_succ a r j).2 (Or.inl h))]
  · rw [if_neg h]
    by_cases h' : Picked a r.val j
    · rw [if_pos h', if_pos ((picked_succ a r j).2 (Or.inr h'))]
    · rw [if_neg h', if_neg fun hh => (((picked_succ a r j).1 hh).elim h h')]

/-- What is left is at most the entry at the next place. -/
theorem rest_le (a : Fin n → EReal) (r : Fin n) (j : Fin n) : rest a r.val j ≤ a (place a r) := by
  obtain ⟨k, rfl⟩ := place_surjective a j
  unfold rest
  split
  · exact bot_le
  · rename_i h
    rw [picked_place] at h
    exact place_antitone a (not_lt.1 h)

/-- The greatest entry left after `r` rounds is the `r`-th greatest entry of the row. -/
theorem max_rest (a : Fin n → EReal) (r : Fin n) : Finset.univ.fold max ⊥ (rest a r.val) = a (place a r) := by
  refine le_antisymm ((Finset.fold_max_le _).2 ⟨bot_le, fun j _ => rest_le a r j⟩) ?_
  exact (Finset.le_fold_max _).2 (Or.inr ⟨place a r, Finset.mem_univ _, (rest_place a r).ge⟩)

/-- Of the positions that hold that entry after `r` rounds, place `r` is the first. -/
theorem first_rest (a : Fin n → EReal) (ha : ∀ j, a j ≠ ⊥) (r : Fin n) (j : Fin n) (h : rest a r.val j = a (place a r)) : place a r ≤ j := by
  obtain ⟨k, rfl⟩ := place_surjective a j
  have hk : ¬ k.val < r.val := fun hk => ha (place a r) (by rw [← h]; exact if_pos ((picked_place a _ k).2 hk))
  rcases lt_or_eq_of_le (show r ≤ k from not_lt.1 hk) with hk' | rfl
  · have e : a (place a k) = a (place a r) := by
      rw [← h]; exact (if_neg fun hp => hk ((picked_place a _ k).1 hp)).symm
    rcases place_before a hk' with hlt | ⟨-, hlt⟩
    · exact absurd hlt (by rw [e]; exact lt_irrefl _)
    · exact hlt.le
  · exact le_rfl

/-- A signed minimum of words that hold naturals below 2³¹ is the word of the least of them. -/
theorem fold_minsi (f : Fin n → ℕ) (hf : ∀ j, f j < 2 ^ 31) (m : Fin n) (hm : ∀ j, f m ≤ f j) :
    Finset.univ.fold IntOp.minsi 2147483647#32 (fun j => BitVec.ofNat 32 (f j)) = BitVec.ofNat 32 (f m) := by
  have key : ∀ s : Finset (Fin n), ∃ k, k ≤ 2147483647 ∧ (m ∈ s → k ≤ f m) ∧ ((∃ j ∈ s, k = f j) ∨ k = 2147483647)
      ∧ s.fold IntOp.minsi 2147483647#32 (fun j => BitVec.ofNat 32 (f j)) = BitVec.ofNat 32 k := by
    intro s
    induction s using Finset.induction_on with
    | empty => exact ⟨2147483647, le_rfl, fun h => absurd h (Finset.notMem_empty _), Or.inr rfl, rfl⟩
    | insert j s hj ih =>
      obtain ⟨k, hk, hkm, hkj, e⟩ := ih
      rw [Finset.fold_insert hj, e]
      have hfj := hf j
      have hmin : IntOp.minsi (BitVec.ofNat 32 (f j)) (BitVec.ofNat 32 k) = BitVec.ofNat 32 (min (f j) k) := by
        have h1 : (BitVec.ofNat 32 (f j)).toInt = f j := by
          rw [BitVec.toInt_eq_toNat_of_lt (by rw [BitVec.toNat_ofNat]; omega), BitVec.toNat_ofNat]; omega
        have h2 : (BitVec.ofNat 32 k).toInt = k := by
          rw [BitVec.toInt_eq_toNat_of_lt (by rw [BitVec.toNat_ofNat]; omega), BitVec.toNat_ofNat]; omega
        simp only [IntOp.minsi, BitVec.slt, h1, h2, decide_eq_true_eq]
        split
        · rw [min_eq_left (by omega)]
        · rw [min_eq_right (by omega)]
      refine ⟨min (f j) k, by omega, fun hmem => ?_, ?_, hmin⟩
      · rcases Finset.mem_insert.1 hmem with rfl | h
        · exact min_le_left _ _
        · exact (min_le_right _ _).trans (hkm h)
      · rcases le_total (f j) k with h | h
        · exact Or.inl ⟨j, Finset.mem_insert_self _ _, min_eq_left h⟩
        · rw [min_eq_right h]
          rcases hkj with ⟨i, hi, e⟩ | e
          · exact Or.inl ⟨i, Finset.mem_insert_of_mem hi, e⟩
          · exact Or.inr e
  obtain ⟨k, _, hkm, hkj, e⟩ := key Finset.univ
  rw [e]
  have h1 := hkm (Finset.mem_univ _)
  have h2 : f m ≤ k := by
    rcases hkj with ⟨j, -, rfl⟩ | rfl
    · exact hm j
    · exact (Nat.lt_succ_iff.1 (hf m))
  rw [le_antisymm h1 h2]

end Cert.Attn

end
-- ==== Proof.FinishRows.lean ====
/- One filter's finish on a block of rows, as the last region computes it, read row by row.

   `tops v` holds each row's maximum, `hits v` marks in each row the first position that holds it, `strike v` overwrites that
   position. Five rounds choose the five greatest entries of a row; `finish v` is the softmax over them, zero elsewhere. -/
module

public import proofs.«01_k».proof.Proof.RowPick
public import proofs.«01_k».proof.Proof.Gen.KernelIdeal
public import Idealize.ShloMosaic.Lib.Pointwise

@[expose] public section

set_option maxRecDepth 16384

noncomputable section

namespace Cert.Attn

open Idealize.ShloMosaic Cert.KernelIdeal Cert.KernelIdeal.Gen

/-- A block of 128 rows of 2048 entries. -/
abbrev Rows := FVec Ideal S128x2048 .f32

/-- The column number of each entry. -/
def cols : IVec S128x2048 32 := iota .tc S128x2048 32 [1] iota_S128x2048_d1_w32

/-- Each row's maximum. -/
def tops (v : Rows) : FVec Ideal S128x1 .f32 :=
  shapeCast S128x1 (multiReduction .maximumf [1] S128 v 0xFF800000#32 reduces_S128x2048_S128 (.inl rfl) rfl) shapeCasts_S128_S128x1

/-- Each row's first position that holds the maximum, as a column of words. -/
def firsts (v : Rows) : IVec S128x1 32 :=
  shapeCast S128x1 (multiReductionI .minsi [1] S128
    (select (cmpf .oeq v (broadcastTo S128x2048 (tops v) broadcasts_S128x1_S128x2048)) cols (broadcast S128x2048 2048#32))
    2147483647#32 reduces_S128x2048_S128 rfl) shapeCasts_S128_S128x1

/-- The mark on that position. -/
def hits (v : Rows) : IVec S128x2048 1 := cmpi .eq cols (broadcastTo S128x2048 (firsts v) broadcasts_S128x1_S128x2048)

/-- The block with that position overwritten by the masking constant. -/
def strike (v : Rows) : Rows := select (hits v) (broadcast S128x2048 (Named.named (F := Ideal) κ "mask" 0xFF61B1E6#32)) v

/-- The word of minus infinity. -/
theorem ofBits_neg_inf : Ideal.ofBits .f32 0xFF800000#32 = ⊥ := by
  simp [Ideal.ofBits, Ideal.ieee]

/-- The masking constant is minus infinity. -/
theorem mask_eq : Named.named (F := Ideal) (φ := .f32) κ "mask" 0xFF61B1E6#32 = (⊥ : EReal) := IdealRules.named_const.ideal_named_scalar _ _ _ _ rfl

/-- Entry `i` of `tops v` is the maximum of row `i`. -/
theorem tops_apply (v : Rows) (i : Fin 128) : tops v (ix2 i 0) = Finset.univ.fold max ⊥ fun k => v (ix2 i k) := by
  unfold tops
  pointwise
  rw [ofBits_neg_inf]

/-- Entry `i` of `firsts v` is the least column at which row `i` holds its maximum. -/
theorem firsts_apply (v : Rows) (i : Fin 128) : firsts v (ix2 i 0)
    = Finset.univ.fold IntOp.minsi 2147483647#32 fun k : Fin 2048 => if v (ix2 i k) = tops v (ix2 i 0) then BitVec.ofNat 32 k.val else 2048#32 := by
  unfold firsts cols
  pointwise

/-- `hits v` marks column `j` of row `i` when `j` is the row's first column holding the maximum. -/
theorem hits_apply (v : Rows) (i : Fin 128) (j : Fin 2048) : hits v (ix2 i j) = BitVec.ofBool (decide (BitVec.ofNat 32 j.val = firsts v (ix2 i 0))) := by
  unfold hits cols
  pointwise
  simp only [IntOp.cmpi]
  congr 1

/-- `strike v` changes row `i` only where `hits v` marks it. -/
theorem strike_apply (v : Rows) (i : Fin 128) (j : Fin 2048) : strike v (ix2 i j) = if hits v (ix2 i j) = 1#1 then ⊥ else v (ix2 i j) := by
  unfold strike
  pointwise
  rw [mask_eq]
  rfl

/-- The words of two column numbers are equal when the numbers are. -/
theorem ofNat_inj {i j : Fin 2048} : BitVec.ofNat 32 i.val = BitVec.ofNat 32 j.val ↔ i = j := by
  rw [← BitVec.toNat_inj, BitVec.toNat_ofNat, BitVec.toNat_ofNat, Fin.ext_iff]
  omega

section Round
variable {a : Fin 2048 → EReal} (ha : ∀ j, a j ≠ ⊥) (r : Fin 2048) {v : Rows} {i : Fin 128} (hv : ∀ j, v (ix2 i j) = rest a r.val j)
include hv

/-- After `r` rounds the row's maximum is its `r`-th greatest entry, -/
theorem tops_rest : tops v (ix2 i 0) = a (place a r) := by
  rw [tops_apply, ← max_rest a r]
  exact congrArg (fun f => Finset.univ.fold max ⊥ f) (funext hv)

include ha

/-- the first position that holds it is place `r`, -/
theorem firsts_rest : firsts v (ix2 i 0) = BitVec.ofNat 32 (place a r).val := by
  have h := fold_minsi (fun k : Fin 2048 => if v (ix2 i k) = tops v (ix2 i 0) then k.val else 2048) (fun k => by split <;> omega) (place a r)
    (fun k => by
      rw [tops_rest r hv, hv, hv, if_pos (rest_place a r)]
      split
      · rename_i hk; exact first_rest a ha r k hk
      · omega)
  rw [firsts_apply]
  rw [tops_rest r hv, hv, rest_place, if_pos rfl] at h
  rw [← h, tops_rest r hv]
  refine congrArg (fun f => Finset.univ.fold IntOp.minsi 2147483647#32 f) (funext fun k => ?_)
  split <;> rfl

/-- which alone is marked, -/
theorem hits_rest (j : Fin 2048) : hits v (ix2 i j) = 1#1 ↔ j = place a r := by
  rw [hits_apply, firsts_rest ha r hv]
  by_cases h : j = place a r
  · simp [h]
  · simp [h, ofNat_inj]

/-- and the next round starts from the row less that entry. -/
theorem strike_rest (j : Fin 2048) : strike v (ix2 i j) = rest a (r.val + 1) j := by
  classical
  rw [strike_apply, rest_succ, hv]
  exact if_congr (hits_rest ha r hv j) rfl rfl

end Round

/-- The sum of the exponentials of the five greatest entries, each less the greatest. -/
def mass (a : Fin 2048 → EReal) : EReal := ∑ r : Fin 5, Ideal.exp (a (place a (r.castLE (by omega))) - a (place a 0))

open Classical in
/-- The softmax of a row over its five greatest entries, zero elsewhere. -/
def attRow (a : Fin 2048 → EReal) (j : Fin 2048) : EReal :=
  if Picked a 5 j then Ideal.div (Ideal.exp (a j - a (place a 0))) (mass a) else 0

/-- The five rounds' denominators, summed as the region sums them. -/
def masses (t0 t1 t2 t3 t4 : FVec Ideal S128x1 .f32) : FVec Ideal S128x1 .f32 :=
  addf (addf (addf (addf (addf (mulf t0 (broadcast S128x1 (Scalar.ofBits .f32 0x00000000#32))) (exp (subf t0 t0))) (exp (subf t1 t0)))
    (exp (subf t2 t0))) (exp (subf t3 t0))) (exp (subf t4 t0))

/-- One filter's finish on a block of rows. -/
def finish (v : Rows) : Rows :=
  select
    (ori (ori (ori (ori (ori (broadcast S128x2048 0#1) (hits v)) (hits (strike v))) (hits (strike (strike v)))) (hits (strike (strike (strike v)))))
      (hits (strike (strike (strike (strike v))))))
    (divf (exp (subf v (broadcastTo S128x2048 (tops v) broadcasts_S128x1_S128x2048)))
      (broadcastTo S128x2048 (masses (tops v) (tops (strike v)) (tops (strike (strike v))) (tops (strike (strike (strike v))))
        (tops (strike (strike (strike (strike v)))))) broadcasts_S128x1_S128x2048))
    (broadcast S128x2048 (Scalar.ofBits .f32 0x00000000#32))

/-- Six marks joined are set when one of them is. -/
theorem or_bits (b0 b1 b2 b3 b4 b5 : BitVec 1) : (((((b0 = 1#1 ∨ b1 = 1#1) ∨ b2 = 1#1) ∨ b3 = 1#1) ∨ b4 = 1#1) ∨ b5 = 1#1)
    ↔ IntOp.ori (IntOp.ori (IntOp.ori (IntOp.ori (IntOp.ori b0 b1) b2) b3) b4) b5 = 1#1 := by
  unfold IntOp.ori
  revert b0 b1 b2 b3 b4 b5
  decide

/-- On a row of real numbers the finish is the softmax over the five greatest entries. -/
theorem finish_apply (v : Rows) (i : Fin 128) (j : Fin 2048) (ha : ∀ k, v (ix2 i k) ≠ ⊥) :
    finish v (ix2 i j) = attRow (fun k => v (ix2 i k)) j := by
  set a : Fin 2048 → EReal := fun k => v (ix2 i k) with hadef
  have h0 : ∀ k, v (ix2 i k) = rest a (0 : Fin 2048).val k := fun k => (congrFun (rest_zero a) k).symm
  have h1 : ∀ k, strike v (ix2 i k) = rest a (1 : Fin 2048).val k := strike_rest ha 0 h0
  have h2 : ∀ k, strike (strike v) (ix2 i k) = rest a (2 : Fin 2048).val k := strike_rest ha 1 h1
  have h3 : ∀ k, strike (strike (strike v)) (ix2 i k) = rest a (3 : Fin 2048).val k := strike_rest ha 2 h2
  have h4 : ∀ k, strike (strike (strike (strike v))) (ix2 i k) = rest a (4 : Fin 2048).val k := strike_rest ha 3 h3
  have hm : masses (tops v) (tops (strike v)) (tops (strike (strike v))) (tops (strike (strike (strike v)))) (tops (strike (strike (strike (strike v)))))
      (ix2 i 0) = mass a := by
    unfold masses
    pointwise
    rw [tops_rest 0 h0, tops_rest 1 h1, tops_rest 2 h2, tops_rest 3 h3, tops_rest 4 h4]
    unfold mass
    rw [Fin.sum_univ_five]
    simp
  unfold finish
  pointwise
  rw [hm, tops_rest 0 h0]
  unfold attRow
  have e0 := hits_rest ha 0 h0 j
  have e1 := hits_rest ha 1 h1 j
  have e2 := hits_rest ha 2 h2 j
  have e3 := hits_rest ha 3 h3 j
  have e4 := hits_rest ha 4 h4 j
  have key : IntOp.ori (IntOp.ori (IntOp.ori (IntOp.ori (IntOp.ori (0#1) (hits v (ix2 i j))) (hits (strike v) (ix2 i j)))
      (hits (strike (strike v)) (ix2 i j))) (hits (strike (strike (strike v))) (ix2 i j))) (hits (strike (strike (strike (strike v)))) (ix2 i j)) = 1#1
      ↔ Picked a 5 j := by
    rw [← or_bits, e0, e1, e2, e3, e4]
    constructor
    · rintro (((((h | h) | h) | h) | h) | h)
      · exact absurd h (by decide)
      all_goals exact ⟨_, by decide, h.symm⟩
    · rintro ⟨k, hk, rfl⟩
      obtain ⟨k, hk'⟩ := k
      simp only at hk
      interval_cases k
      · exact .inl (.inl (.inl (.inl (.inr rfl))))
      · exact .inl (.inl (.inl (.inr rfl)))
      · exact .inl (.inl (.inr rfl))
      · exact .inl (.inr rfl)
      · exact .inr rfl
  classical
  unfold Scalar.select
  exact if_congr key rfl rfl

end Cert.Attn

end
-- ==== Proof.Blocks.lean ====
/- What one grid point of the linear region and of a recurrence region computes, and what each of these regions leaves in its
   output array. -/
module

public import proofs.«01_k».proof.Proof.Gen.KernelIdeal.Frame.Region0
public import proofs.«01_k».proof.Proof.Gen.KernelIdeal.Frame.Region1
public import proofs.«01_k».proof.Proof.Gen.KernelIdeal.Frame.Region2
public import proofs.«01_k».proof.Proof.Gen.KernelIdeal.Frame.Region3
public import proofs.«01_k».proof.Proof.Gen.KernelIdeal.Frame.Region4
public import proofs.«01_k».proof.Proof.Gen.KernelIdeal.Frame.Region5
public import proofs.«01_k».proof.Proof.Gen.KernelIdeal.Frame.Region6
public import proofs.«01_k».proof.Proof.Gen.KernelIdeal.Frame.Region7
public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe Idealize.ShloMosaic.Tactic Cert.KernelIdeal Cert.KernelIdeal.Gen

/-- The product of the node features and the transposed linear weights. -/
def linOf (a : FVec Ideal S2048x512 .f32) (b : FVec Ideal S512x128 .f32) : FVec Ideal S2048x128 .f32 :=
  fun y => ∑ k : Fin 512, a (ix2 (y 0) k) * b (ix2 k (y 1))

/-- One step of the Chebyshev recurrence: twice the product less the last term, less the term before it. -/
def stepOf (l t u : FVec Ideal S2048x2048 .f32) : FVec Ideal S2048x2048 .f32 :=
  fun y => Ideal.ofBits .f32 0x40000000#32 * ((∑ k : Fin 2048, l (ix2 (y 0) k) * t (ix2 k (y 1))) - t y) - u y

/-- Two positions of a matrix are one when their coordinates are. -/
theorem pos_ext {n0 n1 : ℕ} {f g : (⟨2, ![n0, n1]⟩ : Shape).Idx} (h0 : (f 0).val = (g 0).val) (h1 : (f 1).val = (g 1).val) : f = g := by
  funext a
  match a with
  | ⟨0, _⟩ => exact Fin.ext h0
  | ⟨1, _⟩ => exact Fin.ext h1

/-- What one grid point of the linear region stores at `p` is entry `q` of the product, when the blocks are read from those rows and columns. -/
theorem lin_block {a : FVec Ideal S2048x512 .f32} {b : FVec Ideal S512x128 .f32} {ba : FVec Ideal S256x512 .f32} {bb : FVec Ideal S512x128 .f32}
    {p : S256x128.Idx} {q : S2048x128.Idx} (ha : ∀ k, ba (ix2 (p 0) k) = a (ix2 (q 0) k)) (hb : ∀ k, bb (ix2 k (p 1)) = b (ix2 k (q 1))) :
    k0_pay1 ba bb p = linOf a b q := by
  unfold k0_pay1 linOf
  pointwise
  exact Finset.sum_congr rfl fun k _ => congrArg₂ (· * ·) (ha k) (hb k)

/-- What one grid point of a recurrence region stores at `p` is entry `q` of the next term, when the blocks are read from those rows and columns. -/
theorem step_block {l t u : FVec Ideal S2048x2048 .f32} {bl bs bu : FVec Ideal S256x2048 .f32} {bt : FVec Ideal S2048x2048 .f32}
    {p : S256x2048.Idx} {q : S2048x2048.Idx} (hl : ∀ k, bl (ix2 (p 0) k) = l (ix2 (q 0) k)) (ht : ∀ k, bt (ix2 k (p 1)) = t (ix2 k (q 1)))
    (hs : bs p = t q) (hu : bu p = u q) : k1_pay1 bl bt bs bu p = stepOf l t u q := by
  unfold k1_pay1 stepOf
  pointwise
  rw [hs, hu]
  exact congrArg (fun z => Ideal.ofBits .f32 0x40000000#32 * (z - t q) - u q)
    (Finset.sum_congr rfl fun k _ => congrArg₂ (· * ·) (hl k) (ht k))

variable (V : (c : Dev nD) → (b : Ref sig .tc) → Buf (Elt Ideal) ((c : Thread nD τ).loc b))

/-- Region 0 leaves the product in its output array. -/
theorem lin_arr (c : Dev nD) : (dat0 V c).arrAt 2 cfg0.N
    = linOf (V c (Pipeline.arrRef spec0 0)) (V c (Pipeline.arrRef spec0 1)) := by
  have e0 : ∀ t, (cfg0.win 0).index t = ![(grid0.coords t 0).val, 0] := by decide +kernel
  have e1 : ∀ t, (cfg0.win 1).index t = ![0, 0] := by decide +kernel
  have e2 : ∀ t, (cfg0.win 2).index t = ![(grid0.coords t 0).val, 0] := by decide +kernel
  refine (dat0 V c).arrAt_eq_of_covers 2 _ (by decide +kernel) fun t hf y => ?_
  blk_simp
  rw [after0_2]
  frame_out
  refine lin_block (fun k => ?_) (fun k => ?_)
  all_goals
    unfold iblk0
    refine congrArg (V c _) (pos_ext ?_ ?_) <;> blk_simp [e0, e1, e2]

/-- Region 1 leaves the next term of the recurrence in its output array. -/
theorem step_arr1 (c : Dev nD) : (dat1 V c).arrAt 3 cfg1.N
    = stepOf (V c (Pipeline.arrRef spec1 0)) (V c (Pipeline.arrRef spec1 1)) (V c (Pipeline.arrRef spec1 2)) := by
  have e0 : ∀ t, (cfg1.win 0).index t = ![(grid1.coords t 0).val, 0] := by decide +kernel
  have e1 : ∀ t, (cfg1.win 1).index t = ![0, 0] := by decide +kernel
  have e2 : ∀ t, (cfg1.win 2).index t = ![(grid1.coords t 0).val, 0] := by decide +kernel
  have e3 : ∀ t, (cfg1.win 3).index t = ![(grid1.coords t 0).val, 0] := by decide +kernel
  have e4 : ∀ t, k1_off1 (grid1.coords t) = ![(grid1.coords t 0).val * 256, 0] := by decide +kernel
  refine (dat1 V c).arrAt_eq_of_covers 3 _ (by decide +kernel) fun t hf y => ?_
  blk_simp
  rw [after1_3]
  unfold outsAt1
  frame_out
  refine step_block (fun k => ?_) (fun k => ?_) ?_ ?_
  all_goals
    unfold iblk1
    refine congrArg (V c _) (pos_ext ?_ ?_) <;> blk_simp [e0, e1, e2, e3, Rect.idx_unit_val, e4]

/-- Region 2 leaves the next term of the recurrence in its output array. -/
theorem step_arr2 (c : Dev nD) : (dat2 V c).arrAt 3 cfg2.N
    = stepOf (V c (Pipeline.arrRef spec2 0)) (V c (Pipeline.arrRef spec2 1)) (V c (Pipeline.arrRef spec2 2)) := by
  have e0 : ∀ t, (cfg2.win 0).index t = ![(grid2.coords t 0).val, 0] := by decide +kernel
  have e1 : ∀ t, (cfg2.win 1).index t = ![0, 0] := by decide +kernel
  have e2 : ∀ t, (cfg2.win 2).index t = ![(grid2.coords t 0).val, 0] := by decide +kernel
  have e3 : ∀ t, (cfg2.win 3).index t = ![(grid2.coords t 0).val, 0] := by decide +kernel
  have e4 : ∀ t, k2_off1 (grid2.coords t) = ![(grid2.coords t 0).val * 256, 0] := by decide +kernel
  refine (dat2 V c).arrAt_eq_of_covers 3 _ (by decide +kernel) fun t hf y => ?_
  blk_simp
  rw [after2_3]
  unfold outsAt2
  frame_out
  refine step_block (fun k => ?_) (fun k => ?_) ?_ ?_
  all_goals
    unfold iblk2
    refine congrArg (V c _) (pos_ext ?_ ?_) <;> blk_simp [e0, e1, e2, e3, Rect.idx_unit_val, e4]

/-- Region 3 leaves the next term of the recurrence in its output array. -/
theorem step_arr3 (c : Dev nD) : (dat3 V c).arrAt 3 cfg3.N
    = stepOf (V c (Pipeline.arrRef spec3 0)) (V c (Pipeline.arrRef spec3 1)) (V c (Pipeline.arrRef spec3 2)) := by
  have e0 : ∀ t, (cfg3.win 0).index t = ![(grid3.coords t 0).val, 0] := by decide +kernel
  have e1 : ∀ t, (cfg3.win 1).index t = ![0, 0] := by decide +kernel
  have e2 : ∀ t, (cfg3.win 2).index t = ![(grid3.coords t 0).val, 0] := by decide +kernel
  have e3 : ∀ t, (cfg3.win 3).index t = ![(grid3.coords t 0).val, 0] := by decide +kernel
  have e4 : ∀ t, k3_off1 (grid3.coords t) = ![(grid3.coords t 0).val * 256, 0] := by decide +kernel
  refine (dat3 V c).arrAt_eq_of_covers 3 _ (by decide +kernel) fun t hf y => ?_
  blk_simp
  rw [after3_3]
  unfold outsAt3
  frame_out
  refine step_block (fun k => ?_) (fun k => ?_) ?_ ?_
  all_goals
    unfold iblk3
    refine congrArg (V c _) (pos_ext ?_ ?_) <;> blk_simp [e0, e1, e2, e3, Rect.idx_unit_val, e4]

/-- Region 4 leaves the next term of the recurrence in its output array. -/
theorem step_arr4 (c : Dev nD) : (dat4 V c).arrAt 3 cfg4.N
    = stepOf (V c (Pipeline.arrRef spec4 0)) (V c (Pipeline.arrRef spec4 1)) (V c (Pipeline.arrRef spec4 2)) := by
  have e0 : ∀ t, (cfg4.win 0).index t = ![(grid4.coords t 0).val, 0] := by decide +kernel
  have e1 : ∀ t, (cfg4.win 1).index t = ![0, 0] := by decide +kernel
  have e2 : ∀ t, (cfg4.win 2).index t = ![(grid4.coords t 0).val, 0] := by decide +kernel
  have e3 : ∀ t, (cfg4.win 3).index t = ![(grid4.coords t 0).val, 0] := by decide +kernel
  have e4 : ∀ t, k4_off1 (grid4.coords t) = ![(grid4.coords t 0).val * 256, 0] := by decide +kernel
  refine (dat4 V c).arrAt_eq_of_covers 3 _ (by decide +kernel) fun t hf y => ?_
  blk_simp
  rw [after4_3]
  unfold outsAt4
  frame_out
  refine step_block (fun k => ?_) (fun k => ?_) ?_ ?_
  all_goals
    unfold iblk4
    refine congrArg (V c _) (pos_ext ?_ ?_) <;> blk_simp [e0, e1, e2, e3, Rect.idx_unit_val, e4]

/-- Region 5 leaves the next term of the recurrence in its output array. -/
theorem step_arr5 (c : Dev nD) : (dat5 V c).arrAt 3 cfg5.N
    = stepOf (V c (Pipeline.arrRef spec5 0)) (V c (Pipeline.arrRef spec5 1)) (V c (Pipeline.arrRef spec5 2)) := by
  have e0 : ∀ t, (cfg5.win 0).index t = ![(grid5.coords t 0).val, 0] := by decide +kernel
  have e1 : ∀ t, (cfg5.win 1).index t = ![0, 0] := by decide +kernel
  have e2 : ∀ t, (cfg5.win 2).index t = ![(grid5.coords t 0).val, 0] := by decide +kernel
  have e3 : ∀ t, (cfg5.win 3).index t = ![(grid5.coords t 0).val, 0] := by decide +kernel
  have e4 : ∀ t, k5_off1 (grid5.coords t) = ![(grid5.coords t 0).val * 256, 0] := by decide +kernel
  refine (dat5 V c).arrAt_eq_of_covers 3 _ (by decide +kernel) fun t hf y => ?_
  blk_simp
  rw [after5_3]
  unfold outsAt5
  frame_out
  refine step_block (fun k => ?_) (fun k => ?_) ?_ ?_
  all_goals
    unfold iblk5
    refine congrArg (V c _) (pos_ext ?_ ?_) <;> blk_simp [e0, e1, e2, e3, Rect.idx_unit_val, e4]

/-- Region 6 leaves the next term of the recurrence in its output array. -/
theorem step_arr6 (c : Dev nD) : (dat6 V c).arrAt 3 cfg6.N
    = stepOf (V c (Pipeline.arrRef spec6 0)) (V c (Pipeline.arrRef spec6 1)) (V c (Pipeline.arrRef spec6 2)) := by
  have e0 : ∀ t, (cfg6.win 0).index t = ![(grid6.coords t 0).val, 0] := by decide +kernel
  have e1 : ∀ t, (cfg6.win 1).index t = ![0, 0] := by decide +kernel
  have e2 : ∀ t, (cfg6.win 2).index t = ![(grid6.coords t 0).val, 0] := by decide +kernel
  have e3 : ∀ t, (cfg6.win 3).index t = ![(grid6.coords t 0).val, 0] := by decide +kernel
  have e4 : ∀ t, k6_off1 (grid6.coords t) = ![(grid6.coords t 0).val * 256, 0] := by decide +kernel
  refine (dat6 V c).arrAt_eq_of_covers 3 _ (by decide +kernel) fun t hf y => ?_
  blk_simp
  rw [after6_3]
  unfold outsAt6
  frame_out
  refine step_block (fun k => ?_) (fun k => ?_) ?_ ?_
  all_goals
    unfold iblk6
    refine congrArg (V c _) (pos_ext ?_ ?_) <;> blk_simp [e0, e1, e2, e3, Rect.idx_unit_val, e4]

/-- Region 7 leaves the next term of the recurrence in its output array. -/
theorem step_arr7 (c : Dev nD) : (dat7 V c).arrAt 3 cfg7.N
    = stepOf (V c (Pipeline.arrRef spec7 0)) (V c (Pipeline.arrRef spec7 1)) (V c (Pipeline.arrRef spec7 2)) := by
  have e0 : ∀ t, (cfg7.win 0).index t = ![(grid7.coords t 0).val, 0] := by decide +kernel
  have e1 : ∀ t, (cfg7.win 1).index t = ![0, 0] := by decide +kernel
  have e2 : ∀ t, (cfg7.win 2).index t = ![(grid7.coords t 0).val, 0] := by decide +kernel
  have e3 : ∀ t, (cfg7.win 3).index t = ![(grid7.coords t 0).val, 0] := by decide +kernel
  have e4 : ∀ t, k7_off1 (grid7.coords t) = ![(grid7.coords t 0).val * 256, 0] := by decide +kernel
  refine (dat7 V c).arrAt_eq_of_covers 3 _ (by decide +kernel) fun t hf y => ?_
  blk_simp
  rw [after7_3]
  unfold outsAt7
  frame_out
  refine step_block (fun k => ?_) (fun k => ?_) ?_ ?_
  all_goals
    unfold iblk7
    refine congrArg (V c _) (pos_ext ?_ ?_) <;> blk_simp [e0, e1, e2, e3, Rect.idx_unit_val, e4]

end Cert.Attn

end
-- ==== Proof.FinalBlock.lean ====
/- What one grid point of the last region computes, and what that region leaves in its two output arrays. -/
module

public import proofs.«01_k».proof.Proof.FinishRows
public import proofs.«01_k».proof.Proof.Blocks
public import proofs.«01_k».proof.Proof.Gen.KernelIdeal.Frame.Region8
public import Idealize.ShloMosaic.Lib.Pipeline.ValueKit

@[expose] public section

set_option maxRecDepth 16384

noncomputable section

namespace Cert.Attn

open Idealize.ShloMosaic Idealize.ShloMosaic.TcCoe Idealize.ShloMosaic.Tactic Cert.KernelIdeal Cert.KernelIdeal.Gen

/-- The word in row `k`, column `f` of the coefficients, read as the region reads it. -/
def coef (x9 : FVec Ideal S9x4 .f32) (k : Fin 9) (f : Fin 4) : EReal :=
  View.ld (Val := Elt Ideal) (e' := .f32) x9 (Rect.unit (s := S9x4) ![k.val, f.val] S1x1.size (fun a => by
    match a with
    | ⟨0, _⟩ => exact k.isLt
    | ⟨1, _⟩ => exact f.isLt)) (Shape.Idx.first (s := S1x1) (by decide))

/-- It is that entry. -/
theorem coef_eq (x9 : FVec Ideal S9x4 .f32) (k : Fin 9) (f : Fin 4) : coef x9 k f = x9 (ix2 k f) :=
  View.ld_unit_apply_of (Val := Elt Ideal) (S := S9x4) (e := .f32) _ _ _ _ _ _ fun a => by
    match a with
    | ⟨0, _⟩ => rfl
    | ⟨1, _⟩ => rfl

/-- A block of rows of one filter: the Chebyshev terms weighted by their coefficients and summed from the left. -/
def mix (i : grid8.Coords) (x0 x1 x2 x3 x4 x5 x6 x7 : Rows) (c : Fin 9 → EReal) : Rows :=
  addf (addf (addf (addf (addf (addf (addf (addf (mulf (broadcast S128x2048 (Scalar.mulf (F := Ideal) (φ := .f32) (Scalar.ofBits .f32 0x3F000000#32) (c 0))) (k8_pay4 i))
    (mulf (broadcast S128x2048 (c 1)) (k8_pay5 i x0))) (mulf (broadcast S128x2048 (c 2)) (k8_pay6 x1))) (mulf (broadcast S128x2048 (c 3)) (k8_pay7 x2)))
    (mulf (broadcast S128x2048 (c 4)) (k8_pay8 x3))) (mulf (broadcast S128x2048 (c 5)) (k8_pay9 x4))) (mulf (broadcast S128x2048 (c 6)) (k8_pay10 x5)))
    (mulf (broadcast S128x2048 (c 7)) (k8_pay11 x6))) (mulf (broadcast S128x2048 (c 8)) (k8_pay12 x7))

/-- Nine terms weighted and summed from the left: half the first weight on the identity's entry, then the first term less that entry, then the others. -/
def weigh (c : Fin 9 → EReal) (e l t2 t3 t4 t5 t6 t7 t8 : EReal) : EReal :=
  Ideal.ofBits .f32 0x3F000000#32 * c 0 * e + c 1 * (l - e) + c 2 * t2 + c 3 * t3 + c 4 * t4 + c 5 * t5 + c 6 * t6 + c 7 * t7 + c 8 * t8

/-- It depends on nothing but the weights and the terms. -/
theorem weigh_congr {c c' : Fin 9 → EReal} {e l t2 t3 t4 t5 t6 t7 t8 e' l' t2' t3' t4' t5' t6' t7' t8' : EReal} (hc : ∀ k, c k = c' k) (he : e = e')
    (hl : l = l') (h2 : t2 = t2') (h3 : t3 = t3') (h4 : t4 = t4') (h5 : t5 = t5') (h6 : t6 = t6') (h7 : t7 = t7') (h8 : t8 = t8') :
    weigh c e l t2 t3 t4 t5 t6 t7 t8 = weigh c' e' l' t2' t3' t4' t5' t6' t7' t8' := by
  obtain rfl : c = c' := funext hc
  subst he hl h2 h3 h4 h5 h6 h7 h8
  rfl

/-- The block's entry at a position. -/
theorem mix_apply (i : grid8.Coords) (x0 x1 x2 x3 x4 x5 x6 x7 : Rows) (c : Fin 9 → EReal) (p : S128x2048.Idx) :
    mix i x0 x1 x2 x3 x4 x5 x6 x7 c p = weigh c (k8_pay4 (F := Ideal) i p) (x0 p) (x1 p) (x2 p) (x3 p) (x4 p) (x5 p) (x6 p) (x7 p) := by
  generalize he : k8_pay4 (F := Ideal) i = e
  unfold mix weigh k8_pay5 k8_pay6 k8_pay7 k8_pay8 k8_pay9 k8_pay10 k8_pay11 k8_pay12
  rw [he]
  pointwise

/-- An entry of the identity matrix. -/
def eyeAt (r j : Fin 2048) : EReal := if r = j then 1 else 0

/-- A selection by whether two indices are the same word. -/
theorem pick_same (i j : Fin 2048) (a b : EReal) :
    Scalar.select (IntOp.cmpi .eq (BitVec.ofNat 32 i.val) (BitVec.ofNat 32 j.val)) a b = if i = j then a else b := by
  unfold Scalar.select IntOp.cmpi
  by_cases h : i = j
  · simp [h]
  · have hn : BitVec.ofNat 32 i.val ≠ BitVec.ofNat 32 j.val := fun e => h (ofNat_inj.mp e)
    simp [h, beq_eq_false_iff_ne.mpr hn]

/-- The region's block of the identity matrix. -/
theorem eye_block (t : Fin cfg8.N) (p : S128x2048.Idx) (q : S2048x2048.Idx) (h0 : (q 0).val = (grid8.coords t 0).val * 128 + (p 0).val)
    (h1 : (q 1).val = (p 1).val) : k8_pay4 (F := Ideal) (grid8.coords t) p = eyeAt (q 0) (q 1) := by
  unfold k8_pay4 eyeAt
  pointwise
  have hw : IntOp.addi (Scalar.muli (BitVec.ofNat 32 (grid8.coords t 0).val) 128#32) (BitVec.ofNat 32 (p 0).val) = BitVec.ofNat 32 (q 0).val := by
    rw [h0, BitVec.ofNat_add, BitVec.ofNat_mul]
    rfl
  rw [hw, ← h1]
  exact pick_same (q 0) (q 1) 1 0

/-- Entry `j` of row `r` of filter `f`: the Chebyshev terms weighted by the filter's coefficients and summed from the left. -/
def rowOf (l t2 t3 t4 t5 t6 t7 t8 : FVec Ideal S2048x2048 .f32) (w : FVec Ideal S9x4 .f32) (f : Fin 4) (r j : Fin 2048) : EReal :=
  weigh (fun k => w (ix2 k f)) (eyeAt r j) (l (ix2 r j)) (t2 (ix2 r j)) (t3 (ix2 r j)) (t4 (ix2 r j)) (t5 (ix2 r j)) (t6 (ix2 r j)) (t7 (ix2 r j)) (t8 (ix2 r j))

/-- The block's entry is the filter's when the blocks hold the terms' rows. -/
theorem mix_row {i : grid8.Coords} {x0 x1 x2 x3 x4 x5 x6 x7 : Rows} {c : Fin 9 → EReal} {l t2 t3 t4 t5 t6 t7 t8 : FVec Ideal S2048x2048 .f32}
    {w : FVec Ideal S9x4 .f32} {f : Fin 4} {p : S128x2048.Idx} {q : S2048x2048.Idx} (hc : ∀ k, c k = w (ix2 k f))
    (he : k8_pay4 (F := Ideal) i p = eyeAt (q 0) (q 1)) (h0 : x0 p = l (ix2 (q 0) (q 1))) (h1 : x1 p = t2 (ix2 (q 0) (q 1))) (h2 : x2 p = t3 (ix2 (q 0) (q 1)))
    (h3 : x3 p = t4 (ix2 (q 0) (q 1))) (h4 : x4 p = t5 (ix2 (q 0) (q 1))) (h5 : x5 p = t6 (ix2 (q 0) (q 1))) (h6 : x6 p = t7 (ix2 (q 0) (q 1)))
    (h7 : x7 p = t8 (ix2 (q 0) (q 1))) : mix i x0 x1 x2 x3 x4 x5 x6 x7 c p = rowOf l t2 t3 t4 t5 t6 t7 t8 w f (q 0) (q 1) := by
  unfold rowOf
  exact (mix_apply _ _ _ _ _ _ _ _ _ _ p).trans (weigh_congr hc he h0 h1 h2 h3 h4 h5 h6 h7)

/-- The attention array: each row of each filter's matrix, softmaxed over its five greatest entries. -/
def attOf (row : Fin 4 → Fin 2048 → Fin 2048 → EReal) : FVec Ideal S4x2048x2048 .f32 := fun q => attRow (row (q 0) (q 1)) (q 2)

/-- The node features: the four attention matrices times the projected features, side by side. -/
def outOf (row : Fin 4 → Fin 2048 → Fin 2048 → EReal) (h : FVec Ideal S2048x128 .f32) : FVec Ideal S2048x512 .f32 := fun q =>
  ∑ k : Fin 2048, attRow (row ⟨(q 1).val / 128, Nat.div_lt_of_lt_mul (q 1).isLt⟩ (q 0)) k * h (ix2 k ⟨(q 1).val % 128, Nat.mod_lt _ (by decide)⟩)

variable (V : (c : Dev nD) → (b : Ref sig .tc) → Buf (Elt Ideal) ((c : Thread nD τ).loc b))

/-- The filters' matrices, of the arrays that the last region reads. -/
def rowsAt (c : Dev nD) : Fin 4 → Fin 2048 → Fin 2048 → EReal :=
  rowOf (V c (Pipeline.arrRef spec8 0)) (V c (Pipeline.arrRef spec8 1)) (V c (Pipeline.arrRef spec8 2)) (V c (Pipeline.arrRef spec8 3)) (V c (Pipeline.arrRef spec8 4))
    (V c (Pipeline.arrRef spec8 5)) (V c (Pipeline.arrRef spec8 6)) (V c (Pipeline.arrRef spec8 7)) (V c (Pipeline.arrRef spec8 9))

/-- The block of filter `f` at grid point `t`. -/
def filterAt (c : Dev nD) (t : Fin cfg8.N) (f : Fin 4) : Rows :=
  mix (grid8.coords t) (iblk8 V c 0 t) (iblk8 V c 1 t) (iblk8 V c 2 t) (iblk8 V c 3 t) (iblk8 V c 4 t) (iblk8 V c 5 t) (iblk8 V c 6 t) (iblk8 V c 7 t)
    fun k => coef (iblk8 V c 9 t) k f

/-- It holds the filter's rows from `128 t`. -/
theorem filterAt_apply (c : Dev nD) (t : Fin cfg8.N) (f : Fin 4) (p : S128x2048.Idx) (q : S2048x2048.Idx)
    (h0 : (q 0).val = (grid8.coords t 0).val * 128 + (p 0).val) (h1 : (q 1).val = (p 1).val) : filterAt V c t f p = rowsAt V c f (q 0) (q 1) := by
  have e0 : ∀ t, (cfg8.win 0).index t = ![(grid8.coords t 0).val, 0] := by decide +kernel
  have e1 : ∀ t, (cfg8.win 1).index t = ![(grid8.coords t 0).val, 0] := by decide +kernel
  have e2 : ∀ t, (cfg8.win 2).index t = ![(grid8.coords t 0).val, 0] := by decide +kernel
  have e3 : ∀ t, (cfg8.win 3).index t = ![(grid8.coords t 0).val, 0] := by decide +kernel
  have e4 : ∀ t, (cfg8.win 4).index t = ![(grid8.coords t 0).val, 0] := by decide +kernel
  have e5 : ∀ t, (cfg8.win 5).index t = ![(grid8.coords t 0).val, 0] := by decide +kernel
  have e6 : ∀ t, (cfg8.win 6).index t = ![(grid8.coords t 0).val, 0] := by decide +kernel
  have e7 : ∀ t, (cfg8.win 7).index t = ![(grid8.coords t 0).val, 0] := by decide +kernel
  have e9 : ∀ t, (cfg8.win 9).index t = ![0, 0] := by decide +kernel
  have b0 : iblk8 V c 0 t p = V c (Pipeline.arrRef spec8 0) (ix2 (q 0) (q 1)) := by
    unfold iblk8
    refine congrArg (V c _) (pos_ext ?_ ?_) <;> blk_simp [e0, h0, h1]
  have b1 : iblk8 V c 1 t p = V c (Pipeline.arrRef spec8 1) (ix2 (q 0) (q 1)) := by
    unfold iblk8
    refine congrArg (V c _) (pos_ext ?_ ?_) <;> blk_simp [e1, h0, h1]
  have b2 : iblk8 V c 2 t p = V c (Pipeline.arrRef spec8 2) (ix2 (q 0) (q 1)) := by
    unfold iblk8
    refine congrArg (V c _) (pos_ext ?_ ?_) <;> blk_simp [e2, h0, h1]
  have b3 : iblk8 V c 3 t p = V c (Pipeline.arrRef spec8 3) (ix2 (q 0) (q 1)) := by
    unfold iblk8
    refine congrArg (V c _) (pos_ext ?_ ?_) <;> blk_simp [e3, h0, h1]
  have b4 : iblk8 V c 4 t p = V c (Pipeline.arrRef spec8 4) (ix2 (q 0) (q 1)) := by
    unfold iblk8
    refine congrArg (V c _) (pos_ext ?_ ?_) <;> blk_simp [e4, h0, h1]
  have b5 : iblk8 V c 5 t p = V c (Pipeline.arrRef spec8 5) (ix2 (q 0) (q 1)) := by
    unfold iblk8
    refine congrArg (V c _) (pos_ext ?_ ?_) <;> blk_simp [e5, h0, h1]
  have b6 : iblk8 V c 6 t p = V c (Pipeline.arrRef spec8 6) (ix2 (q 0) (q 1)) := by
    unfold iblk8
    refine congrArg (V c _) (pos_ext ?_ ?_) <;> blk_simp [e6, h0, h1]
  have b7 : iblk8 V c 7 t p = V c (Pipeline.arrRef spec8 7) (ix2 (q 0) (q 1)) := by
    unfold iblk8
    refine congrArg (V c _) (pos_ext ?_ ?_) <;> blk_simp [e7, h0, h1]
  have b9 : ∀ k, coef (iblk8 V c 9 t) k f = V c (Pipeline.arrRef spec8 9) (ix2 k f) := fun k => by
    rw [coef_eq]
    unfold iblk8
    refine congrArg (V c _) (pos_ext ?_ ?_) <;> blk_simp [e9]
  unfold filterAt rowsAt
  exact mix_row b9 (eye_block t p q h0 h1) b0 b1 b2 b3 b4 b5 b6 b7

/-- One filter's block of attention, as stored, holds those rows of the attention array. -/
theorem att_piece (c : Dev nD) (t : Fin cfg8.N) (f : Fin 4) (x : S1x128x2048.Idx) (q : S4x2048x2048.Idx) (hr : ∀ f r j, rowsAt V c f r j ≠ ⊥)
    (h0 : (q 0).val = f.val) (h1 : (q 1).val = (grid8.coords t 0).val * 128 + (x 1).val) (h2 : (q 2).val = (x 2).val) :
    shapeCast S1x128x2048 (finish (filterAt V c t f)) shapeCasts_S128x2048_S1x128x2048 x = attOf (rowsAt V c) q := by
  have hf : (fun k => filterAt V c t f (ix2 (x 1) k)) = rowsAt V c (q 0) (q 1) := funext fun k => by
    rw [show q 0 = f from Fin.ext h0]
    exact filterAt_apply V c t f (ix2 (x 1) k) (ix2 (q 1) k) h1 rfl
  pointwise
  have := finish_apply (filterAt V c t f) (x 1) (x 2) (fun k => by rw [congrFun hf k]; exact hr _ _ _)
  rw [hf] at this
  rw [show x 2 = q 2 from Fin.ext h2.symm] at this ⊢
  exact this

set_option maxHeartbeats 4000000 in
/-- The last region leaves the attention array in its first output. -/
theorem att_arr (c : Dev nD) (hr : ∀ f r j, rowsAt V c f r j ≠ ⊥) : (dat8 V c).arrAt 10 cfg8.N = attOf (rowsAt V c) := by
  have e10 : ∀ t, (cfg8.win 10).index t = ![0, (grid8.coords t 0).val, 0] := by decide +kernel
  refine (dat8 V c).arrAt_eq_of_covers 10 _ (by decide +kernel) fun t hf y => ?_
  blk_simp
  rw [after8_10]
  unfold outsAt8
  dsimp only
  frame_out
  canon_tiles x h
  case piece0 =>
    refine (show _ = shapeCast S1x128x2048 (finish (filterAt V c t 3)) shapeCasts_S128x2048_S1x128x2048 x from rfl).trans (att_piece V c t 3 x _ hr ?_ ?_ ?_)
    all_goals blk_simp [e10, h0, h1, h2]
    all_goals first | rfl | omega
  case piece1 =>
    refine (show _ = shapeCast S1x128x2048 (finish (filterAt V c t 2)) shapeCasts_S128x2048_S1x128x2048 x from rfl).trans (att_piece V c t 2 x _ hr ?_ ?_ ?_)
    all_goals blk_simp [e10, h0, h1, h2]
    all_goals first | rfl | omega
  case piece2 =>
    refine (show _ = shapeCast S1x128x2048 (finish (filterAt V c t 1)) shapeCasts_S128x2048_S1x128x2048 x from rfl).trans (att_piece V c t 1 x _ hr ?_ ?_ ?_)
    all_goals blk_simp [e10, h0, h1, h2]
    all_goals first | rfl | omega
  case piece3 =>
    refine (show _ = shapeCast S1x128x2048 (finish (filterAt V c t 0)) shapeCasts_S128x2048_S1x128x2048 x from rfl).trans (att_piece V c t 0 x _ hr ?_ ?_ ?_)
    all_goals blk_simp [e10, h0, h1, h2]
    all_goals first | rfl | omega

/-- One filter's node features, as stored, hold those rows and that filter's columns of the node features' array. -/
theorem out_piece (c : Dev nD) (t : Fin cfg8.N) (f : Fin 4) (x : S128x128.Idx) (q : S2048x512.Idx) (hr : ∀ f r j, rowsAt V c f r j ≠ ⊥)
    (h0 : (q 0).val = (grid8.coords t 0).val * 128 + (x 0).val) (h1 : (q 1).val = f.val * 128 + (x 1).val) :
    matmul dot_S128x2048_S2048x128_S128x128_1_0_0_1_n_n none (finish (filterAt V c t f)) (k8_pay13 (iblk8 V c 8 t)) (constant S128x128 .f32 0x00000000#32) x
      = outOf (rowsAt V c) (V c (Pipeline.arrRef spec8 8)) q := by
  have e8 : ∀ t, (cfg8.win 8).index t = ![0, 0] := by decide +kernel
  have hx : (x 1).val < 128 := (x 1).isLt
  have hq : (⟨(q 1).val / 128, Nat.div_lt_of_lt_mul (q 1).isLt⟩ : Fin 4) = f := Fin.ext (by dsimp only; omega)
  have hf : (fun k => filterAt V c t f (ix2 (x 0) k)) = rowsAt V c f (q 0) := funext fun k => filterAt_apply V c t f (ix2 (x 0) k) (ix2 (q 0) k) h0 rfl
  unfold k8_pay13 outOf
  pointwise
  rw [hq]
  refine Finset.sum_congr rfl fun k _ => congrArg₂ (· * ·) ?_ ?_
  · have := finish_apply (filterAt V c t f) (x 0) k (fun k => by rw [congrFun hf k]; exact hr _ _ _)
    rw [hf] at this
    exact this
  · unfold iblk8
    refine congrArg (V c _) (pos_ext ?_ ?_) <;> blk_simp [e8]
    change (x 1).val = (q 1).val % 128
    omega

set_option maxHeartbeats 4000000 in
/-- The last region leaves the node features in its second output. -/
theorem out_arr (c : Dev nD) (hr : ∀ f r j, rowsAt V c f r j ≠ ⊥) : (dat8 V c).arrAt 11 cfg8.N = outOf (rowsAt V c) (V c (Pipeline.arrRef spec8 8)) := by
  have e11 : ∀ t, (cfg8.win 11).index t = ![(grid8.coords t 0).val, 0] := by decide +kernel
  refine (dat8 V c).arrAt_eq_of_covers 11 _ (by decide +kernel) fun t hf y => ?_
  blk_simp
  rw [after8_11]
  unfold outsAt8
  dsimp only
  frame_out
  canon_tiles x h
  case piece0 =>
    refine (show _ = matmul dot_S128x2048_S2048x128_S128x128_1_0_0_1_n_n none (finish (filterAt V c t 3)) (k8_pay13 (iblk8 V c 8 t)) (constant S128x128 .f32 0x00000000#32) x from rfl).trans (out_piece V c t 3 x _ hr ?_ ?_)
    all_goals blk_simp [e11, h0, h1]
    all_goals first | rfl | omega
  case piece1 =>
    refine (show _ = matmul dot_S128x2048_S2048x128_S128x128_1_0_0_1_n_n none (finish (filterAt V c t 2)) (k8_pay13 (iblk8 V c 8 t)) (constant S128x128 .f32 0x00000000#32) x from rfl).trans (out_piece V c t 2 x _ hr ?_ ?_)
    all_goals blk_simp [e11, h0, h1]
    all_goals first | rfl | omega
  case piece2 =>
    refine (show _ = matmul dot_S128x2048_S2048x128_S128x128_1_0_0_1_n_n none (finish (filterAt V c t 1)) (k8_pay13 (iblk8 V c 8 t)) (constant S128x128 .f32 0x00000000#32) x from rfl).trans (out_piece V c t 1 x _ hr ?_ ?_)
    all_goals blk_simp [e11, h0, h1]
    all_goals first | rfl | omega
  case piece3 =>
    refine (show _ = matmul dot_S128x2048_S2048x128_S128x128_1_0_0_1_n_n none (finish (filterAt V c t 0)) (k8_pay13 (iblk8 V c 8 t)) (constant S128x128 .f32 0x00000000#32) x from rfl).trans (out_piece V c t 0 x _ hr ?_ ?_)
    all_goals blk_simp [e11, h0, h1]
    all_goals first | rfl | omega

end Cert.Attn

end
-- ==== Proof.Terms.lean ====
/- The Chebyshev terms of the shifted Laplacian and the filters' rows built of them. -/
module

public import proofs.«01_k».proof.Proof.FinalBlock

@[expose] public section

noncomputable section

namespace Cert.Attn

open Idealize.ShloMosaic Cert.KernelIdeal Cert.KernelIdeal.Gen

/-- The identity matrix. -/
def eyeMat : FVec Ideal S2048x2048 .f32 := fun y => eyeAt (y 0) (y 1)

/-- Term `n` of the recurrence over the matrix `l`. -/
def termOf (l : FVec Ideal S2048x2048 .f32) : ℕ → FVec Ideal S2048x2048 .f32
  | 0 => eyeMat
  | 1 => fun y => l y - eyeMat y
  | n + 2 => stepOf l (termOf l (n + 1)) (termOf l n)

/-- Entry `j` of row `r` of filter `f`, of the Laplacian and the coefficients alone. -/
def rows (l : FVec Ideal S2048x2048 .f32) (w : FVec Ideal S9x4 .f32) : Fin 4 → Fin 2048 → Fin 2048 → EReal :=
  rowOf l (termOf l 2) (termOf l 3) (termOf l 4) (termOf l 5) (termOf l 6) (termOf l 7) (termOf l 8) w

/-- The attention array as a table of all filters' rows, one filter after the other. -/
def attTable (row : Fin 4 → Fin 2048 → Fin 2048 → EReal) : FVec Ideal S8192x2048 .f32 := fun y =>
  attRow (row ⟨(y 0).val / 2048, Nat.div_lt_of_lt_mul (y 0).isLt⟩ ⟨(y 0).val % 2048, Nat.mod_lt _ (by decide)⟩) (y 1)

/-- A real number among the extended ones. -/
def IsReal (x : EReal) : Prop := ∃ r : ℝ, x = (r : EReal)

/-- A sum of two real numbers is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A difference of two real numbers is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A product of two real numbers is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The greater of two real numbers is real. -/
theorem IsReal.max {x y : EReal} (hx : IsReal x) (hy : IsReal y) : IsReal (max x y) := by
  rcases max_choice x y with h | h <;> rw [h] <;> assumption

/-- A finite sum of real numbers is real. -/
theorem IsReal.sum {ι : Type} (s : Finset ι) (f : ι → EReal) (hf : ∀ k, IsReal (f k)) : IsReal (∑ k ∈ s, f k) := by
  classical
  induction s using Finset.induction_on with
  | empty => exact ⟨0, by simp⟩
  | insert k s hk ih =>
    rw [Finset.sum_insert hk]
    exact (hf k).add ih

/-- A real number is not minus infinity. -/
theorem IsReal.ne_bot {x : EReal} (hx : IsReal x) : x ≠ ⊥ := by
  obtain ⟨a, rfl⟩ := hx
  exact EReal.coe_ne_bot a

/-- A pattern whose exponent field is not full is a real number. -/
theorem isReal_ofBits (b : BitVec 32) (h : (b.extractLsb' 23 8).toNat ≠ 2 ^ 8 - 1) : IsReal (Ideal.ofBits .f32 b) := by
  unfold Ideal.ofBits
  dsimp only
  unfold Ideal.ieee
  dsimp only
  rw [if_neg h]
  split
  · exact ⟨_, rfl⟩
  · exact ⟨_, rfl⟩

/-- The literal for one half is real. -/
theorem isReal_half : IsReal (Ideal.ofBits .f32 0x3F000000#32) := isReal_ofBits _ (by decide)

/-- The literal for two is real. -/
theorem isReal_two : IsReal (Ideal.ofBits .f32 0x40000000#32) := isReal_ofBits _ (by decide)

/-- The identity's entries are real. -/
theorem isReal_eyeAt (r j : Fin 2048) : IsReal (eyeAt r j) := by
  unfold eyeAt
  split
  · exact ⟨1, rfl⟩
  · exact ⟨0, rfl⟩

/-- The terms of a real matrix are real. -/
theorem isReal_termOf (l : FVec Ideal S2048x2048 .f32) (hl : ∀ y, IsReal (l y)) : ∀ (n : ℕ) (y : S2048x2048.Idx), IsReal (termOf l n y)
  | 0, _ => isReal_eyeAt _ _
  | 1, y => (hl y).sub (isReal_eyeAt _ _)
  | n + 2, y => ((isReal_two.mul ((IsReal.sum _ _ fun _ => (hl _).mul (isReal_termOf l hl (n + 1) _)).sub (isReal_termOf l hl (n + 1) y))).sub (isReal_termOf l hl n y))

/-- The filters' rows are real when the Laplacian and the coefficients are. -/
theorem isReal_rows (l : FVec Ideal S2048x2048 .f32) (w : FVec Ideal S9x4 .f32) (hl : ∀ y, IsReal (l y)) (hw : ∀ y, IsReal (w y)) (f : Fin 4)
    (r j : Fin 2048) : IsReal (rows l w f r j) := by
  have ht := isReal_termOf l hl
  unfold rows rowOf weigh
  exact (((((((((isReal_half.mul (hw _)).mul (isReal_eyeAt _ _)).add ((hw _).mul ((hl _).sub (isReal_eyeAt _ _)))).add ((hw _).mul (ht 2 _))).add ((hw _).mul (ht 3 _))).add
    ((hw _).mul (ht 4 _))).add ((hw _).mul (ht 5 _))).add ((hw _).mul (ht 6 _))).add ((hw _).mul (ht 7 _))).add ((hw _).mul (ht 8 _))

end Cert.Attn

end
-- ==== Proof.RefRows.lean ====
/- The reference's softmax over the five greatest entries of each row, read row by row.

   `ranks v` is the table's top five, `kept v` holds them in their places and minus infinity elsewhere, `soft v` is the softmax
   of `kept v` along its rows. It is the same row function (`attRow`) as the kernel's. -/
module

public import proofs.«01_k».proof.Proof.FinishRows
public import proofs.«01_k».proof.Proof.Gen.ReferenceIdeal
public import Idealize.ShloMosaic.Lib.Pointwise
public import Idealize.ShloMosaic.Lib.ScatterToDense.RefScatter
public import Idealize.ShloMosaic.Lib.Tactic.CleanTypes

@[expose] public section

set_option maxRecDepth 16384

noncomputable section

namespace Cert.Attn

open Idealize.ShloMosaic Cert.ReferenceIdeal Cert.ReferenceIdeal.Gen

/-- The table of all filters' rows, one filter after the other. -/
abbrev Table := FVec Ideal S8192x2048 .f32

/-- Row `i` of the table. -/
def rowAt (v : Table) (i : Fin 8192) : Fin 2048 → EReal := fun k => v (ix2 i k)

/-- The five greatest entries of each row and their positions. -/
def ranks (v : Table) : FVec Ideal S8192x5 .f32 × IVec S8192x5 32 :=
  Host.topK S8192x5 1 (FloatOps.cmpfTotal .gt) v sliceFits_S8192x2048_S8192x5

/-- The comparison that orders a row. -/
theorem gt_word (x y : EReal) : (FloatOps.cmpfTotal (F := Ideal) (φ := .f32) .gt x y == 1#1) = decide (y < x) := by
  show (BitVec.ofBool (decide (y < x)) == 1#1) = decide (y < x)
  by_cases h : y < x <;> simp [h]

/-- A row of the table read along it. -/
theorem along_row (i : Fin 8192) (r k : Fin 2048) : (ix2 i r : S8192x2048.Idx).along 1 k = ix2 i k := by
  funext a
  match a with
  | ⟨0, _⟩ => rfl
  | ⟨1, _⟩ => rfl

/-- The sort's order on row `i` is the row's own. -/
theorem sorted_row (v : Table) (i : Fin 8192) (r r' : Fin 2048) :
    sortedFrom (fun k k' => FloatOps.cmpfTotal (F := Ideal) (φ := .f32) .gt (v ((ix2 i r : S8192x2048.Idx).along 1 k)) (v ((ix2 i r : S8192x2048.Idx).along 1 k')) == 1#1) r'
      = place (rowAt v i) r' := by
  unfold place
  refine congrArg (fun f => sortedFrom f r') (funext fun k => funext fun k' => ?_)
  refine (gt_word _ _).trans ?_
  exact congrArg₂ (fun x y : EReal => decide (y < x)) (congrArg v (along_row i r k)) (congrArg v (along_row i r k'))

/-- The `r`-th value of the top five of row `i` is the entry at the row's place `r`. -/
theorem ranks_val (v : Table) (i : Fin 8192) (r : Fin 5) : (ranks v).1 (ix2 i r) = rowAt v i (place (rowAt v i) (r.castLE (by decide))) := by
  unfold ranks Host.topK
  dsimp only
  unfold Host.sort2
  pointwise
  refine (congrArg (fun q : Fin 2048 => v ((ix2 i (r.castLE (by decide)) : S8192x2048.Idx).along 1 q)) (sorted_row v i _ _)).trans ?_
  exact congrArg v (along_row i _ _)

/-- The `r`-th position of the top five of row `i` is the row's place `r`. -/
theorem ranks_pos (v : Table) (i : Fin 8192) (r : Fin 5) : (ranks v).2 (ix2 i r) = BitVec.ofNat 32 (place (rowAt v i) (r.castLE (by decide))).val := by
  unfold ranks Host.topK
  dsimp only
  unfold Host.sort2
  pointwise
  refine (congrArg (fun x : S8192x2048.Idx => BitVec.ofNat 32 (x 1).val) (along_row i _ _)).trans ?_
  exact congrArg (fun q : Fin 2048 => BitVec.ofNat 32 ((ix2 i q : S8192x2048.Idx) 1).val) (sorted_row v i (r.castLE (by decide)) (r.castLE (by decide)))

/-- The table with every entry but its row's five greatest at minus infinity. -/
def kept (v : Table) : Table :=
  Host.scatter scatter_S8192x2048_S8192x5x2_S8192x5_n_01_01_2 (fun _ b => b)
    (broadcastInDim S8192x2048 ![] bcast_S_S8192x2048 (constant S_ .f32 0xFF800000#32))
    (concatenate S8192x5x2 2 [⟨S8192x5x1, broadcastInDim S8192x5x1 ![0, 1] bcast_S8192x5_S8192x5x1_0_1 (broadcastInDim S8192x5 ![0, 1] bcast_S8192x1_S8192x5_0_1
        (select (cmpi .slt (broadcastInDim S8192x1 ![0] bcast_S8192_S8192x1_0 (iotaInDim S8192 32 0)) (broadcastInDim S8192x1 ![] bcast_S_S8192x1 (constantI S_ 32 0#32)))
          (addi (broadcastInDim S8192x1 ![0] bcast_S8192_S8192x1_0 (iotaInDim S8192 32 0)) (broadcastInDim S8192x1 ![] bcast_S_S8192x1 (constantI S_ 32 8192#32)))
          (broadcastInDim S8192x1 ![0] bcast_S8192_S8192x1_0 (iotaInDim S8192 32 0))))⟩,
      ⟨S8192x5x1, broadcastInDim S8192x5x1 ![0, 1] bcast_S8192x5_S8192x5x1_0_1
        (select (cmpi .slt (ranks v).2 (broadcastInDim S8192x5 ![] bcast_S_S8192x5 (constantI S_ 32 0#32)))
          (addi (ranks v).2 (broadcastInDim S8192x5 ![] bcast_S_S8192x5 (constantI S_ 32 2048#32))) (ranks v).2)⟩]
      concatenates_S8192x5x1_S8192x5x1_S8192x5x2_d2)
    (ranks v).1

open Classical in
/-- The last of the first `n` places to hit position `j` leaves the row's entry there; if none does, minus infinity stands. -/
theorem last_hit (a : Fin 2048 → EReal) (j : Fin 2048) (n : ℕ) (hn : n ≤ 5) :
    ScatterToDense.GS (fun k => if h : k < 5 then BitVec.ofNat 32 (place a ⟨k, by omega⟩).val else 0#32)
      (fun k => if h : k < 5 then a (place a ⟨k, by omega⟩) else 0) ⊥ j.val n = if Picked a n j then a j else ⊥ := by
  induction n with
  | zero => rw [ScatterToDense.GS_zero, if_neg (not_picked_zero a j)]
  | succ n ih =>
    have hk : n < 5 := by omega
    have hs := picked_succ a (⟨n, by omega⟩ : Fin 2048) j
    have hw : j.val = (BitVec.ofNat 32 (place a (⟨n, by omega⟩ : Fin 2048)).val).toNat ↔ j = place a ⟨n, by omega⟩ := by
      rw [BitVec.toNat_ofNat, Fin.ext_iff]
      omega
    rw [ScatterToDense.GS_succ, ih (by omega), dif_pos hk, dif_pos hk]
    by_cases h : j = place a ⟨n, by omega⟩
    · rw [if_pos (hw.2 h), if_pos (hs.2 (Or.inl h)), ← h]
    · rw [if_neg fun e => h (hw.1 e)]
      exact if_congr ⟨fun p => hs.2 (Or.inr p), fun p => (hs.1 p).resolve_left h⟩ rfl rfl

open Classical in
/-- `kept v` holds a row's entry where it is one of the five greatest, minus infinity elsewhere. -/
theorem kept_apply (v : Table) (i : Fin 8192) (j : Fin 2048) :
    kept v (ix2 i j) = if Picked (rowAt v i) 5 j then rowAt v i j else ⊥ := by
  rw [show (ix2 i j : S8192x2048.Idx) = Idealize.ShloMosaic.ValueIdx.ix2 i j from rfl]
  unfold kept
  rw [ScatterToDense.scatter_eq_GS (T := 8192) (C := 2048) (K := 5) _ rfl rfl rfl (by decide) (by decide) _ _ _
    (fun i k => if h : k < 5 then BitVec.ofNat 32 (place (rowAt v i) ⟨k, by omega⟩).val else 0#32)
    (fun i k => if h : k < 5 then rowAt v i (place (rowAt v i) ⟨k, by omega⟩) else 0) ?_ ?_ ?_]
  · have hb : (broadcastInDim S8192x2048 ![] bcast_S_S8192x2048 (constant (F := Ideal) S_ .f32 0xFF800000#32)) (Idealize.ShloMosaic.ValueIdx.ix2 i j) = ⊥ := by
      pointwise
      exact ofBits_neg_inf
    rw [hb]
    exact last_hit (rowAt v i) j 5 le_rfl
  · intro i k
    pointwise
    exact Routing.wrap_of_lt (BitVec.ofNat 32 i.val) _ (by rw [BitVec.toNat_ofNat]; omega)
  · intro i k
    rw [dif_pos k.isLt]
    pointwise
    have e : (ranks v).2 (ix2 i k) = BitVec.ofNat 32 (place (rowAt v i) ⟨k.val, by omega⟩).val := ranks_pos v i k
    refine (Routing.wrap_of_lt ((ranks v).2 (ix2 i k)) _ ?_).trans e
    rw [e, BitVec.toNat_ofNat]
    omega
  · intro i k
    rw [dif_pos k.isLt]
    exact ranks_val v i k

/-- The greatest kept entry of each row, on a column. -/
def peaks (w : Table) : FVec Ideal S8192x1 .f32 :=
  broadcastInDim S8192x1 ![0] bcast_S8192_S8192x1_0 (maximumf (broadcastInDim S8192 ![] bcast_S_S8192 (constant S_ .f32 0xFF800000#32))
    (Host.reduce FloatOps.maximumf w (constant S_ .f32 0xFF800000#32) reducesTo_S8192x2048_S8192_d1 h_S_))

/-- Entry `i` of `peaks w` is the maximum of row `i`. -/
theorem peaks_apply (w : Table) (i : Fin 8192) : peaks w (ix2 i 0) = Finset.univ.fold max ⊥ fun k : Fin 2048 => w (ix2 i k) := by
  have hd : S8192x2048.Reduces [1] S8192 := by decide
  have e : Host.reduce (FloatOps.maximumf (F := Ideal) (φ := .f32)) w (constant S_ .f32 0xFF800000#32) reducesTo_S8192x2048_S8192_d1 h_S_
      = fun y => Finset.univ.fold max ⊥ fun k : Fin 2048 => w (ix2 (y 0) k) := by
    funext y
    refine (Host.reduce_eq_fold_single (α := EReal) max w (constant (F := Ideal) S_ .f32 0xFF800000#32) reducesTo_S8192x2048_S8192_d1 hd h_S_ y).trans ?_
    rw [show constant (F := Ideal) S_ .f32 0xFF800000#32 (Shape.Idx.first (s := S_) (by decide)) = ⊥ from ofBits_neg_inf]
    refine congrArg (Finset.univ.fold max (⊥ : EReal)) (funext fun k => congrArg w ?_)
    funext a
    match a with
    | ⟨0, _⟩ => rfl
    | ⟨1, _⟩ => rfl
  unfold peaks
  rw [e]
  pointwise
  rw [ofBits_neg_inf]
  exact max_eq_right bot_le

/-- The sum of each row, on a column. -/
def sums (w : Table) : FVec Ideal S8192x1 .f32 :=
  broadcastInDim S8192x1 ![0] bcast_S8192_S8192x1_0 (Host.reduceAdd w (constant S_ .f32 0x00000000#32) reducesTo_S8192x2048_S8192_d1 h_S_)

/-- Entry `i` of `sums w` is the sum of row `i`. -/
theorem sums_apply (w : Table) (i : Fin 8192) : sums w (ix2 i 0) = ∑ k : Fin 2048, w (ix2 i k) := by
  unfold sums
  pointwise

/-- The greatest kept entry of a row is its first place's. -/
theorem peaks_kept (v : Table) (i : Fin 8192) : peaks (kept v) (ix2 i 0) = rowAt v i (place (rowAt v i) 0) := by
  classical
  rw [peaks_apply]
  refine le_antisymm ((Finset.fold_max_le _).2 ⟨bot_le, fun k _ => ?_⟩) ((Finset.le_fold_max _).2 (Or.inr ⟨place (rowAt v i) 0, Finset.mem_univ _, ?_⟩))
  · rw [kept_apply]
    split
    · obtain ⟨r, hr⟩ := place_surjective (rowAt v i) k
      rw [← hr]
      exact place_antitone _ (Fin.zero_le _)
    · exact bot_le
  · rw [kept_apply, if_pos ((picked_place _ _ _).2 (by decide))]

/-- The exponentials of the softmax. -/
def expo (v : Table) : Table := Host.exp (subf (kept v) (broadcastInDim S8192x2048 ![0, 1] bcast_S8192x1_S8192x2048_0_1 (peaks (kept v))))

open Classical in
/-- The exponentials of a row of real numbers: zero off the five greatest entries. -/
theorem expo_apply (v : Table) (i : Fin 8192) (j : Fin 2048) (ha : ∀ k, ∃ x : ℝ, rowAt v i k = (x : EReal)) :
    expo v (ix2 i j) = if Picked (rowAt v i) 5 j then Ideal.exp (rowAt v i j - rowAt v i (place (rowAt v i) 0)) else 0 := by
  have hk := kept_apply v i j
  have hp := peaks_kept v i
  unfold expo
  generalize kept v = w at *
  generalize peaks w = u at *
  pointwise
  rw [hk, hp]
  by_cases h : Picked (rowAt v i) 5 j
  · rw [if_pos h, if_pos h]
  · rw [if_neg h, if_neg h]
    obtain ⟨x, hx⟩ := ha (place (rowAt v i) 0)
    rw [hx, EReal.bot_sub]
    rfl

/-- The softmax of the kept entries along each row. -/
def soft (v : Table) : Table := Host.divf (expo v) (broadcastInDim S8192x2048 ![0, 1] bcast_S8192x1_S8192x2048_0_1 (sums (expo v)))

/-- A sum over a row of what the five chosen positions hold is the sum over the five places. -/
theorem sum_picked (a g : Fin 2048 → EReal) [∀ k, Decidable (Picked a 5 k)] :
    ∑ k, (if Picked a 5 k then g k else 0) = ∑ r : Fin 5, g (place a (r.castLE (by decide))) := by
  classical
  rw [← Finset.sum_filter, ← Finset.sum_image (s := Finset.univ) (f := g) (g := fun r : Fin 5 => place a (r.castLE (by decide)))]
  · refine Finset.sum_congr (Finset.ext fun k => ?_) fun _ _ => rfl
    rw [Finset.mem_filter, Finset.mem_image]
    exact ⟨fun ⟨_, r, hr, e⟩ => ⟨⟨r.val, hr⟩, Finset.mem_univ _, e⟩, fun ⟨r, _, e⟩ => ⟨Finset.mem_univ _, r.castLE (by decide), r.isLt, e⟩⟩
  · intro r _ s _ e
    exact Fin.castLE_injective _ (place_injective a e)

/-- A row's mass is not zero. -/
theorem mass_ne_zero (a : Fin 2048 → EReal) (ha : ∀ k, ∃ x : ℝ, a k = (x : EReal)) : mass a ≠ 0 := by
  obtain ⟨x, hx⟩ := ha (place a 0)
  have h1 : Ideal.exp (a (place a ((0 : Fin 5).castLE (by decide))) - a (place a 0)) = 1 := by
    rw [show ((0 : Fin 5).castLE (by decide) : Fin 2048) = 0 from rfl, hx, ← EReal.coe_sub, sub_self]
    show ((Real.exp 0 : ℝ) : EReal) = 1
    rw [Real.exp_zero]
    rfl
  have hn : ∀ y : EReal, 0 ≤ Ideal.exp y := fun y => by
    induction y with
    | bot => exact le_rfl
    | top => exact le_top
    | coe y => exact EReal.coe_nonneg.2 (Real.exp_pos y).le
  have := Finset.single_le_sum (f := fun r : Fin 5 => Ideal.exp (a (place a (r.castLE (by decide))) - a (place a 0))) (fun r _ => hn _) (Finset.mem_univ 0)
  rw [h1] at this
  exact (zero_lt_one.trans_le this).ne'

/-- A row of the softmax is the row function of the table's row, when that row is real. -/
theorem soft_apply (v : Table) (i : Fin 8192) (j : Fin 2048) (ha : ∀ k, ∃ x : ℝ, rowAt v i k = (x : EReal)) :
    soft v (ix2 i j) = attRow (rowAt v i) j := by
  classical
  have he := expo_apply v i j ha
  have hs : sums (expo v) (ix2 i 0) = mass (rowAt v i) := by
    rw [sums_apply, Finset.sum_congr rfl fun k _ => expo_apply v i k ha]
    exact sum_picked _ _
  unfold soft
  generalize expo v = w at *
  generalize sums w = u at *
  pointwise
  rw [he, hs]
  unfold attRow
  by_cases h : Picked (rowAt v i) 5 j
  · rw [if_pos h, if_pos h]
  · rw [if_neg h, if_neg h]
    unfold Ideal.div
    rw [if_neg (mass_ne_zero _ ha), zero_mul]

end Cert.Attn

end
-- ==== Proof.RefValue.lean ====
/- What the reference computes, in the terms of the filters' rows. -/
module

public import proofs.«01_k».proof.Proof.Terms
public import proofs.«01_k».proof.Proof.RefRows
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Attn

open Idealize.ShloMosaic Idealize.ShloMosaic.TcCoe Cert.ReferenceIdeal Cert.ReferenceIdeal.Gen Cert.ReferenceIdeal.Value

variable (V : Valuation τ sig (Elt Ideal))

/-- The Laplacian of the reference. -/
def refL : FVec Ideal S2048x2048 .f32 := res_main_v45 (F := Ideal) V

/-- The coefficients of the reference. -/
def refC : FVec Ideal S9x4 .f32 := res_main_v99 (F := Ideal) V

/-- One step of the recurrence as the reference writes it. -/
theorem ref_step (l t u : FVec Ideal S2048x2048 .f32) :
    subf (mulf (broadcastInDim S2048x2048 ![] bcast_S_S2048x2048 (constant S_ .f32 0x40000000#32))
      (subf (Host.dotGeneral dot_S2048x2048_S2048x2048_S2048x2048_1_0_0_1_n_n none l t)
        (mulf (broadcastInDim S2048x2048 ![] bcast_S_S2048x2048 (constant S_ .f32 0x3F800000#32)) t))) u = stepOf l t u := by
  funext y
  unfold stepOf
  pointwise

/-- Whether two indices are the same word, as a number. -/
theorem same_bit (i j : Fin 2048) :
    FloatOps.uitofp (F := Ideal) .f32 (IntOp.cmpi .eq (BitVec.ofNat 32 i.val) (BitVec.ofNat 32 j.val)) = eyeAt i j := by
  show (((IntOp.cmpi .eq (BitVec.ofNat 32 i.val) (BitVec.ofNat 32 j.val)).toNat : ℝ) : EReal) = eyeAt i j
  unfold IntOp.cmpi eyeAt
  by_cases h : i = j
  · simp [h]
  · have hn : BitVec.ofNat 32 i.val ≠ BitVec.ofNat 32 j.val := fun e => h (ofNat_inj.mp e)
    simp [h, beq_eq_false_iff_ne.mpr hn]

/-- The reference's identity matrix. -/
theorem ref_eye : res_main_v38 (F := Ideal) V = eyeMat := by
  funext y
  unfold res_main_v38 eyeMat
  clean_types
  pointwise
  rw [show IntOp.addi (BitVec.ofNat 32 (y 0).val) 0#32 = BitVec.ofNat 32 (y 0).val from BitVec.add_zero _]
  exact same_bit (y 0) (y 1)

/-- A quotient by one. -/
theorem div_one (x : EReal) : Ideal.div x 1 = x := by
  unfold Ideal.div
  rw [if_neg one_ne_zero, inv_one, mul_one]

/-- The reference's term 1 of the recurrence. -/
theorem ref_term1 : res_main_v104 (F := Ideal) V = termOf (refL V) 1 := by
  have h := ref_eye V
  funext y
  unfold res_main_v104 termOf refL
  clean_types
  rw [h]
  generalize res_main_v45 (F := Ideal) V = l
  pointwise
  exact div_one _

/-- The reference's term 2 of the recurrence. -/
theorem ref_term2 : res_main_v128 (F := Ideal) V = termOf (refL V) 2 := by
  refine (show _ = stepOf (refL V) (res_main_v104 V) (res_main_v38 V) from ref_step _ _ _).trans ?_
  rw [ref_term1, ref_eye]
  rfl

/-- The reference's term 3 of the recurrence. -/
theorem ref_term3 : res_main_v143 (F := Ideal) V = termOf (refL V) 3 := by
  refine (show _ = stepOf (refL V) (res_main_v128 V) (res_main_v104 V) from ref_step _ _ _).trans ?_
  rw [ref_term2, ref_term1]
  rfl

/-- The reference's term 4 of the recurrence. -/
theorem ref_term4 : res_main_v158 (F := Ideal) V = termOf (refL V) 4 := by
  refine (show _ = stepOf (refL V) (res_main_v143 V) (res_main_v128 V) from ref_step _ _ _).trans ?_
  rw [ref_term3, ref_term2]
  rfl

/-- The reference's term 5 of the recurrence. -/
theorem ref_term5 : res_main_v173 (F := Ideal) V = termOf (refL V) 5 := by
  refine (show _ = stepOf (refL V) (res_main_v158 V) (res_main_v143 V) from ref_step _ _ _).trans ?_
  rw [ref_term4, ref_term3]
  rfl

/-- The reference's term 6 of the recurrence. -/
theorem ref_term6 : res_main_v188 (F := Ideal) V = termOf (refL V) 6 := by
  refine (show _ = stepOf (refL V) (res_main_v173 V) (res_main_v158 V) from ref_step _ _ _).trans ?_
  rw [ref_term5, ref_term4]
  rfl

/-- The reference's term 7 of the recurrence. -/
theorem ref_term7 : res_main_v203 (F := Ideal) V = termOf (refL V) 7 := by
  refine (show _ = stepOf (refL V) (res_main_v188 V) (res_main_v173 V) from ref_step _ _ _).trans ?_
  rw [ref_term6, ref_term5]
  rfl

/-- The reference's attention filters, one row of one filter at a time. -/
theorem ref_rows (f : Fin 4) (r j : Fin 2048) : (res_main_v226 (F := Ideal) V : FVec Ideal S4x2048x2048 .f32) (ix3 f r j) = rows (refL V) (refC V) f r j := by
  have e8 : termOf (refL V) 8 = stepOf (refL V) (termOf (refL V) 7) (termOf (refL V) 6) := rfl
  unfold rows rowOf weigh
  rw [e8, ← ref_term2, ← ref_term3, ← ref_term4, ← ref_term5, ← ref_term6, ← ref_term7]
  have h1 : res_main_v104 (F := Ideal) V (ix2 r j) = refL V (ix2 r j) - eyeAt r j := congrFun (ref_term1 V) (ix2 r j)
  have h0 : res_main_v38 (F := Ideal) V (ix2 r j) = eyeAt r j := congrFun (ref_eye V) (ix2 r j)
  rw [← h1, ← h0]
  unfold stepOf refC refL
  unfold res_main_v226
  clean_types
  generalize res_main_v99 (F := Ideal) V = w
  generalize res_main_v45 (F := Ideal) V = l
  generalize res_main_v38 (F := Ideal) V = t0
  generalize res_main_v104 (F := Ideal) V = t1
  generalize res_main_v128 (F := Ideal) V = t2
  generalize res_main_v143 (F := Ideal) V = t3
  generalize res_main_v158 (F := Ideal) V = t4
  generalize res_main_v173 (F := Ideal) V = t5
  generalize res_main_v188 (F := Ideal) V = t6
  generalize res_main_v203 (F := Ideal) V = t7
  pointwise

end Cert.Attn

end
-- ==== Proof.RefOut.lean ====
/- The reference's two results, in the terms of the filters' rows. -/
module

public import proofs.«01_k».proof.Proof.RefValue

@[expose] public section

set_option maxRecDepth 16384

noncomputable section

namespace Cert.Attn

open Idealize.ShloMosaic Idealize.ShloMosaic.TcCoe Cert.ReferenceIdeal Cert.ReferenceIdeal.Gen Cert.ReferenceIdeal.Value

/-- The table of rows is the array of filters laid out one filter after the other. -/
theorem cast_rows (a : FVec Ideal S4x2048x2048 .f32) (i : Fin 8192) (k : Fin 2048) :
    shapeCast S8192x2048 a shapeCasts_S4x2048x2048_S8192x2048 (ix2 i k)
      = a (ix3 ⟨i.val / 2048, Nat.div_lt_of_lt_mul i.isLt⟩ ⟨i.val % 2048, Nat.mod_lt _ (by decide)⟩ k) := by
  pointwise

/-- A row of the array of filters is a row of the table. -/
theorem table_rows (row : Fin 4 → Fin 2048 → Fin 2048 → EReal) :
    shapeCast S8192x2048 (attOf row) shapeCasts_S4x2048x2048_S8192x2048 = attTable row := by
  funext q
  obtain ⟨i, j, rfl⟩ : ∃ i j, q = ix2 i j := ⟨q 0, q 1, (by funext d; fin_cases d <;> rfl)⟩
  exact cast_rows _ i j

/-- The product of the table with the features, filter blocks put side by side. -/
theorem side_by_side (t : FVec Ideal S8192x2048 .f32) (h : FVec Ideal S2048x128 .f32) (r : Fin 2048) (f : Fin 512) :
    shapeCast S2048x512 (transpose S2048x4x128 [1, 0, 2] (shapeCast S4x2048x128 (Host.dotGeneral dot_S8192x2048_S2048x128_S8192x128_1_0_0_1_n_n none t h)
      shapeCasts_S8192x128_S4x2048x128) transposes_S4x2048x128_S2048x4x128_1_0_2) shapeCasts_S2048x4x128_S2048x512 (ix2 r f)
      = ∑ k : Fin 2048, t (ix2 ⟨f.val / 128 * 2048 + r.val, by omega⟩ k) * h (ix2 k ⟨f.val % 128, Nat.mod_lt _ (by decide)⟩) := by
  pointwise

/-- The features as the reference writes them. -/
theorem ref_lin (x : FVec Ideal S2048x512 .f32) (w : FVec Ideal S128x512 .f32) :
    Host.dotGeneral dot_S2048x512_S512x128_S2048x128_1_0_0_1_n_n none x (transpose S512x128 [1, 0] w transposes_S128x512_S512x128_1_0)
      = linOf x (transpose S512x128 [1, 0] w transposes_S128x512_S512x128_1_0) := by
  funext y
  unfold linOf
  pointwise

variable (V : Valuation τ sig (Elt Ideal))

/-- Row `i` of the reference's filtered table is row `i % 2048` of filter `i / 2048`. -/
theorem ref_rowAt (i : Fin 8192) : rowAt (res_main_v227 (F := Ideal) V) i
    = rows (refL V) (refC V) ⟨i.val / 2048, Nat.div_lt_of_lt_mul i.isLt⟩ ⟨i.val % 2048, Nat.mod_lt _ (by decide)⟩ := by
  funext k
  exact (cast_rows (res_main_v226 (F := Ideal) V) i k).trans (ref_rows V _ _ _)

/-- The reference's attention result. -/
theorem ref_soft (hl : ∀ y, IsReal (refL V y)) (hc : ∀ y, IsReal (refC V y)) :
    Host.divf (res_main_v252 (F := Ideal) V) (broadcastInDim S8192x2048 ![0, 1] bcast_S8192x1_S8192x2048_0_1 (broadcastInDim S8192x1 ![0] bcast_S8192_S8192x1_0
      (Host.reduceAdd (res_main_v252 (F := Ideal) V) (constant S_ .f32 0x00000000#32) reducesTo_S8192x2048_S8192_d1 h_S_)))
      = attTable (rows (refL V) (refC V)) := by
  refine (show _ = soft (res_main_v227 (F := Ideal) V) from rfl).trans ?_
  funext q
  obtain ⟨i, j, rfl⟩ : ∃ i j, q = ix2 i j := ⟨q 0, q 1, (by funext d; fin_cases d <;> rfl)⟩
  refine (soft_apply _ i j fun k => ?_).trans ?_
  · rw [ref_rowAt]
    exact isReal_rows _ _ hl hc _ _ _
  · rw [ref_rowAt]
    rfl

/-- The table's product with the features is the output. -/
theorem out_side (row : Fin 4 → Fin 2048 → Fin 2048 → EReal) (h : FVec Ideal S2048x128 .f32) :
    shapeCast S2048x512 (transpose S2048x4x128 [1, 0, 2] (shapeCast S4x2048x128 (Host.dotGeneral dot_S8192x2048_S2048x128_S8192x128_1_0_0_1_n_n none (attTable row) h)
      shapeCasts_S8192x128_S4x2048x128) transposes_S4x2048x128_S2048x4x128_1_0_2) shapeCasts_S2048x4x128_S2048x512 = outOf row h := by
  funext q
  obtain ⟨r, f, rfl⟩ : ∃ r f, q = ix2 r f := ⟨q 0, q 1, (by funext d; fin_cases d <;> rfl)⟩
  refine (side_by_side _ _ r f).trans (Finset.sum_congr rfl fun k _ => ?_)
  refine congrArg₂ (fun a b => attRow (row a b) k * h (ix2 k ⟨f.val % 128, Nat.mod_lt _ (by decide)⟩)) (Fin.ext ?_) (Fin.ext ?_)
  · show (f.val / 128 * 2048 + r.val) / 2048 = f.val / 128
    omega
  · show (f.val / 128 * 2048 + r.val) % 2048 = r.val
    omega

end Cert.Attn

end
-- ==== Proof.HostValue.lean ====
/- What the kernel's host operations leave, in the reference's terms. -/
module

public import proofs.«01_k».proof.Proof.RefOut
public import proofs.«01_k».proof.Proof.Gen.KernelIdeal.Frame.Fold0

@[expose] public section

set_option maxRecDepth 16384
set_option maxHeartbeats 1000000

noncomputable section

namespace Cert.Attn

open Idealize.ShloMosaic Idealize.ShloMosaic.TcCoe Idealize.ShloMosaic.StableHlo Cert.KernelIdeal Cert.KernelIdeal.Gen

/-- The kernel's buffers. -/
local notation "KVal" => Valuation Cert.KernelIdeal.τ Cert.KernelIdeal.sig (Elt Ideal)
/-- The reference's buffers. -/
local notation "RVal" => Valuation Cert.ReferenceIdeal.τ Cert.ReferenceIdeal.sig (Elt Ideal)

variable (U : KVal) (V : RVal)

/-- The symmetric adjacency matrix. -/
theorem host_adj (h : (V (Proc.devRef .tc Cert.ReferenceIdeal.main_arg1) : IVec S2x65536 32) = U (Proc.devRef .tc main_arg1)) :
    (after hostOps0 U (Proc.devRef .tc main_v21) : FVec Ideal S2048x2048 .f32) = Cert.ReferenceIdeal.Value.res_main_v23 (F := Ideal) V := by
  after_results_simp
  unfold Cert.ReferenceIdeal.Value.res_main_v23 Cert.ReferenceIdeal.Value.res_main_v21 Cert.ReferenceIdeal.Value.res_main_v3 Cert.ReferenceIdeal.Value.res_main_v5
  rw [h]
  rfl

/-- The row sums of the adjacency matrix. -/
def degree : FVec Ideal S2048 .f32 := Cert.ReferenceIdeal.Value.res_main_v24 (F := Ideal) V

/-- Whether a row has a neighbour. -/
theorem host_pos (h : (V (Proc.devRef .tc Cert.ReferenceIdeal.main_arg1) : IVec S2x65536 32) = U (Proc.devRef .tc main_arg1)) :
    (after hostOps0 U (Proc.devRef .tc main_v24) : IVec S2048 1)
      = cmpf .ogt (degree V) (broadcastInDim S2048 ![] bcast_S_S2048 (constant (F := Ideal) S_ .f32 0x00000000#32)) := by
  after_results_simp
  unfold degree Cert.ReferenceIdeal.Value.res_main_v24 Cert.ReferenceIdeal.Value.res_main_v23 Cert.ReferenceIdeal.Value.res_main_v21
    Cert.ReferenceIdeal.Value.res_main_v3 Cert.ReferenceIdeal.Value.res_main_v5
  rw [h]
  rfl

/-- One over the square root of a row's degree. -/
theorem host_inv (h : (V (Proc.devRef .tc Cert.ReferenceIdeal.main_arg1) : IVec S2x65536 32) = U (Proc.devRef .tc main_arg1)) :
    (after hostOps0 U (Proc.devRef .tc main_v29) : FVec Ideal S2048 .f32)
      = Host.divf (broadcastInDim S2048 ![] bcast_S_S2048 (constant (F := Ideal) S_ .f32 0x3F800000#32)) (Host.sqrt (maximumf (degree V)
          (broadcastInDim S2048 ![] bcast_S_S2048 (constant (F := Ideal) S_ .f32 0x2B8CBCCC#32)))) := by
  after_results_simp
  unfold degree Cert.ReferenceIdeal.Value.res_main_v24 Cert.ReferenceIdeal.Value.res_main_v23 Cert.ReferenceIdeal.Value.res_main_v21
    Cert.ReferenceIdeal.Value.res_main_v3 Cert.ReferenceIdeal.Value.res_main_v5
  rw [h]
  rfl

/-- The constant zero that replaces the factor of a node without edges. -/
theorem host_zero : (after hostOps0 U (Proc.devRef .tc main_cst_8) : FVec Ideal S_ .f32) = constant (F := Ideal) S_ .f32 0x00000000#32 := by
  after_results_simp <;> rfl

/-- The degree factors, zero where a row has no neighbour. -/
theorem host_where : (after hostOps0_1 U (Proc.devRef .tc main_v30) : FVec Ideal S2048 .f32)
    = select (U (Proc.devRef .tc main_v24) : IVec S2048 1) (U (Proc.devRef .tc main_v29) : FVec Ideal S2048 .f32)
        (broadcastInDim S2048 ![] bcast_S_S2048 (id (U (Proc.devRef .tc main_cst_8) : FVec Ideal S_ .f32))) := by
  after_results_simp <;> rfl

/-- The identity matrix. -/
theorem host_eye : (after hostOps0_2 U (Proc.devRef .tc main_v36) : FVec Ideal S2048x2048 .f32) = Cert.ReferenceIdeal.Value.res_main_v38 (F := Ideal) V := by
  after_results_simp <;> rfl

/-- The Laplacian. -/
theorem host_lap (h23 : (U (Proc.devRef .tc main_v21) : FVec Ideal S2048x2048 .f32) = Cert.ReferenceIdeal.Value.res_main_v23 (F := Ideal) V)
    (h32 : (U (Proc.devRef .tc main_v30) : FVec Ideal S2048 .f32) = Cert.ReferenceIdeal.Value.res_main_v32 (F := Ideal) V) :
    (after hostOps0_2 U (Proc.devRef .tc main_v43) : FVec Ideal S2048x2048 .f32) = refL V := by
  after_results_simp
  rw [h23, h32]
  rfl

/-- The first layer before its rectifier. -/
def layer1 (a3 : FVec Ideal S32x1 .f32) (a4 : FVec Ideal S32 .f32) : FVec Ideal S9x32 .f32 :=
  addf (Host.dotGeneral dot_S9x1_S1x32_S9x32_1_0_0_1_n_n none (shapeCast _ (addf (mulf (broadcastInDim S9 ![] bcast_S_S9 (constant (F := Ideal) S_ .f32 0x3F800000#32))
    (Host.cos (Host.divf (mulf (broadcastInDim S9 ![] bcast_S_S9 (constant (F := Ideal) S_ .f32 0x40490FDB#32)) (addf (sitofp .f32 (iotaInDim S9 32 0))
      (broadcastInDim S9 ![] bcast_S_S9 (constant (F := Ideal) S_ .f32 0x3F000000#32)))) (broadcastInDim S9 ![] bcast_S_S9 (constant (F := Ideal) S_ .f32 0x41100000#32)))))
    (broadcastInDim S9 ![] bcast_S_S9 (constant (F := Ideal) S_ .f32 0x3F800000#32))) shapeCasts_S9_S9x1) (transpose S1x32 [1, 0] a3 transposes_S32x1_S1x32_1_0))
    (broadcastInDim S9x32 ![0, 1] bcast_S1x32_S9x32_0_1 (broadcastInDim S1x32 ![1] bcast_S32_S1x32_1 a4))

/-- The second layer before its rectifier. -/
def layer2 (g : FVec Ideal S9x32 .f32) (a5 : FVec Ideal S64x32 .f32) (a6 : FVec Ideal S64 .f32) : FVec Ideal S9x64 .f32 :=
  addf (Host.dotGeneral dot_S9x32_S32x64_S9x64_1_0_0_1_n_n none g (transpose S32x64 [1, 0] a5 transposes_S64x32_S32x64_1_0))
    (broadcastInDim S9x64 ![0, 1] bcast_S1x64_S9x64_0_1 (broadcastInDim S1x64 ![1] bcast_S64_S1x64_1 a6))

/-- The third layer before its rectifier. -/
def layer3 (g : FVec Ideal S9x64 .f32) (a7 : FVec Ideal S32x64 .f32) (a8 : FVec Ideal S32 .f32) : FVec Ideal S9x32 .f32 :=
  addf (Host.dotGeneral dot_S9x64_S64x32_S9x32_1_0_0_1_n_n none g (transpose S64x32 [1, 0] a7 transposes_S32x64_S64x32_1_0))
    (broadcastInDim S9x32 ![0, 1] bcast_S1x32_S9x32_0_1 (broadcastInDim S1x32 ![1] bcast_S32_S1x32_1 a8))

/-- The fourth layer before its rectifier. -/
def layer4 (g : FVec Ideal S9x32 .f32) (a9 : FVec Ideal S4x32 .f32) (a10 : FVec Ideal S4 .f32) : FVec Ideal S9x4 .f32 :=
  addf (Host.dotGeneral dot_S9x32_S32x4_S9x4_1_0_0_1_n_n none g (transpose S32x4 [1, 0] a9 transposes_S4x32_S32x4_1_0))
    (broadcastInDim S9x4 ![0, 1] bcast_S1x4_S9x4_0_1 (broadcastInDim S1x4 ![1] bcast_S4_S1x4_1 a10))

/-- The rectifiers of the three widths. -/
def relu32 (x : FVec Ideal S9x32 .f32) : FVec Ideal S9x32 .f32 := maximumf x (broadcastInDim S9x32 ![] bcast_S_S9x32 (constant (F := Ideal) S_ .f32 0x00000000#32))
/-- The positive part of 64 columns. -/
def relu64 (x : FVec Ideal S9x64 .f32) : FVec Ideal S9x64 .f32 := maximumf x (broadcastInDim S9x64 ![] bcast_S_S9x64 (constant (F := Ideal) S_ .f32 0x00000000#32))
/-- The positive part of four columns. -/
def relu4 (x : FVec Ideal S9x4 .f32) : FVec Ideal S9x4 .f32 := maximumf x (broadcastInDim S9x4 ![] bcast_S_S9x4 (constant (F := Ideal) S_ .f32 0x00000000#32))

/-- The matrix of cosines. -/
def cosm : FVec Ideal S9x9 .f32 :=
  Host.cos (Host.divf (mulf (broadcastInDim S9x9 ![0, 1] bcast_S9x1_S9x9_0_1 (mulf (broadcastInDim S9x1 ![] bcast_S_S9x1 (constant (F := Ideal) S_ .f32 0x40490FDB#32))
    (broadcastInDim S9x1 ![0] bcast_S9_S9x1_0 (sitofp .f32 (iotaInDim S9 32 0))))) (broadcastInDim S9x9 ![0, 1] bcast_S1x9_S9x9_0_1
    (addf (broadcastInDim S1x9 ![1] bcast_S9_S1x9_1 (sitofp .f32 (iotaInDim S9 32 0))) (broadcastInDim S1x9 ![] bcast_S_S1x9 (constant (F := Ideal) S_ .f32 0x3F000000#32)))))
    (broadcastInDim S9x9 ![] bcast_S_S9x9 (constant (F := Ideal) S_ .f32 0x41100000#32)))

/-- The coefficients from the last layer: the cosine matrix times it, over a constant. -/
def coeffs (g : FVec Ideal S9x4 .f32) : FVec Ideal S9x4 .f32 := fun y =>
  Ideal.ofBits .f32 0x3E638E39#32 * ∑ k : Fin 9, cosm (ix2 (y 0) k) * g (ix2 k (y 1))

/-- The first layer's sums. -/
theorem host_l1 : (after hostOps0_2 U (Proc.devRef .tc main_v61) : FVec Ideal S9x32 .f32)
    = layer1 (U (Proc.devRef .tc main_arg3)) (U (Proc.devRef .tc main_arg4)) := by
  after_results_simp <;> rfl

/-- The first layer's positive parts. -/
theorem host_r1 : (after hostOps0_3 U (Proc.devRef .tc main_v62) : FVec Ideal S9x32 .f32) = relu32 (U (Proc.devRef .tc main_v61)) := by
  after_results_simp <;> rfl

/-- The second layer's sums. -/
theorem host_l2 : (after hostOps0_4 U (Proc.devRef .tc main_v67) : FVec Ideal S9x64 .f32)
    = layer2 (U (Proc.devRef .tc main_v62)) (U (Proc.devRef .tc main_arg5)) (U (Proc.devRef .tc main_arg6)) := by
  after_results_simp <;> rfl

/-- The second layer's positive parts. -/
theorem host_r2 : (after hostOps0_5 U (Proc.devRef .tc main_v68) : FVec Ideal S9x64 .f32) = relu64 (U (Proc.devRef .tc main_v67)) := by
  after_results_simp <;> rfl

/-- The third layer's sums. -/
theorem host_l3 : (after hostOps0_6 U (Proc.devRef .tc main_v73) : FVec Ideal S9x32 .f32)
    = layer3 (U (Proc.devRef .tc main_v68)) (U (Proc.devRef .tc main_arg7)) (U (Proc.devRef .tc main_arg8)) := by
  after_results_simp <;> rfl

/-- The third layer's positive parts. -/
theorem host_r3 : (after hostOps0_7 U (Proc.devRef .tc main_v74) : FVec Ideal S9x32 .f32) = relu32 (U (Proc.devRef .tc main_v73)) := by
  after_results_simp <;> rfl

/-- The fourth layer's sums. -/
theorem host_l4 : (after hostOps0_8 U (Proc.devRef .tc main_v79) : FVec Ideal S9x4 .f32)
    = layer4 (U (Proc.devRef .tc main_v74)) (U (Proc.devRef .tc main_arg9)) (U (Proc.devRef .tc main_arg10)) := by
  after_results_simp <;> rfl

/-- The fourth layer's positive parts. -/
theorem host_r4 : (after hostOps0_9 U (Proc.devRef .tc main_v80) : FVec Ideal S9x4 .f32) = relu4 (U (Proc.devRef .tc main_v79)) := by
  after_results_simp <;> rfl

/-- The coefficients as the kernel sums them: products first, then the sum over the nodes. -/
theorem host_coeffs : (after hostOps0_10 U (Proc.devRef .tc main_v102) : FVec Ideal S9x4 .f32) = coeffs (U (Proc.devRef .tc main_v80)) := by
  after_results_simp
  refine (show _ = mulf (broadcastInDim S9x4 ![] bcast_S_S9x4 (constant (F := Ideal) S_ .f32 0x3E638E39#32)) (Host.reduceAdd
    (mulf (broadcastInDim S9x9x4 ![0, 1, 2] bcast_S9x9x1_S9x9x4_0_1_2 (broadcastInDim S9x9x1 ![0, 1] bcast_S9x9_S9x9x1_0_1 cosm))
      (broadcastInDim S9x9x4 ![0, 1, 2] bcast_S1x9x4_S9x9x4_0_1_2 (broadcastInDim S1x9x4 ![1, 2] bcast_S9x4_S1x9x4_1_2 (U (Proc.devRef .tc main_v80) : FVec Ideal S9x4 .f32))))
    (constant (F := Ideal) S_ .f32 0x00000000#32) reducesTo_S9x9x4_S9x4_d1 h_S_) from rfl).trans ?_
  funext y
  unfold coeffs
  generalize cosm = a
  generalize (U (Proc.devRef .tc main_v80) : FVec Ideal S9x4 .f32) = b
  pointwise

/-- The coefficients as the reference writes them. -/
theorem ref_coeffs (g : FVec Ideal S9x4 .f32) : mulf (broadcastInDim S9x4 ![] bcast_S_S9x4 (constant (F := Ideal) S_ .f32 0x3E638E39#32))
    (Host.dotGeneral Cert.ReferenceIdeal.dot_S9x9_S9x4_S9x4_1_0_0_1_n_n none cosm g) = coeffs g := by
  funext y
  unfold coeffs
  generalize cosm = a
  pointwise

/-- The transposed linear weights. -/
theorem host_weight : (after hostOps0_10 U (Proc.devRef .tc main_v103) : FVec Ideal S512x128 .f32)
    = transpose S512x128 [1, 0] (U (Proc.devRef .tc main_arg2) : FVec Ideal S128x512 .f32) transposes_S128x512_S512x128_1_0 := by
  after_results_simp <;> rfl

/-- All the layers, of the eight weight arrays. -/
def layers (a3 : FVec Ideal S32x1 .f32) (a4 : FVec Ideal S32 .f32) (a5 : FVec Ideal S64x32 .f32) (a6 : FVec Ideal S64 .f32)
    (a7 : FVec Ideal S32x64 .f32) (a8 : FVec Ideal S32 .f32) (a9 : FVec Ideal S4x32 .f32) (a10 : FVec Ideal S4 .f32) : FVec Ideal S9x4 .f32 :=
  relu4 (layer4 (relu32 (layer3 (relu64 (layer2 (relu32 (layer1 a3 a4)) a5 a6)) a7 a8)) a9 a10)

/-- The reference's coefficients are those of the layers. -/
theorem ref_layers : refC V = coeffs (layers (V (Proc.devRef .tc Cert.ReferenceIdeal.main_arg3)) (V (Proc.devRef .tc Cert.ReferenceIdeal.main_arg4))
    (V (Proc.devRef .tc Cert.ReferenceIdeal.main_arg5)) (V (Proc.devRef .tc Cert.ReferenceIdeal.main_arg6)) (V (Proc.devRef .tc Cert.ReferenceIdeal.main_arg7))
    (V (Proc.devRef .tc Cert.ReferenceIdeal.main_arg8)) (V (Proc.devRef .tc Cert.ReferenceIdeal.main_arg9)) (V (Proc.devRef .tc Cert.ReferenceIdeal.main_arg10))) :=
  (show refC V = _ from rfl).trans (ref_coeffs _)

/-- The first term. -/
theorem host_term1 (hl : (U (Proc.devRef .tc main_v43) : FVec Ideal S2048x2048 .f32) = refL V)
    (he : (U (Proc.devRef .tc main_v36) : FVec Ideal S2048x2048 .f32) = Cert.ReferenceIdeal.Value.res_main_v38 (F := Ideal) V) :
    (after hostOps1 U (Proc.devRef .tc main_v109) : FVec Ideal S2048x2048 .f32) = termOf (refL V) 1 := by
  rw [← ref_term1]
  after_results_simp
  rw [hl, he]
  rfl

/-- The attention result, its four filters stacked into one table. -/
theorem host_flat : (after hostOps9 U (Proc.devRef .tc main_v118) : FVec Ideal S8192x2048 .f32)
    = shapeCast S8192x2048 (U (Proc.devRef .tc main_v117_0) : FVec Ideal S4x2048x2048 .f32) shapeCasts_S4x2048x2048_S8192x2048 := by
  after_results_simp <;> rfl

end Cert.Attn

end
-- ==== Proof.Reals.lean ====
/- When the weights are finite, the Laplacian and the coefficients are real numbers. -/
module

public import proofs.«01_k».proof.Proof.HostValue
public import Idealize.ShloMosaic.Lib.Routing.OpsOrder

@[expose] public section

set_option maxRecDepth 16384

noncomputable section

namespace Cert.Attn

open Idealize.ShloMosaic Idealize.ShloMosaic.TcCoe Cert.KernelIdeal Cert.KernelIdeal.Gen

/-- A pattern with a clear sign and an exponent field neither empty nor full is a positive real number. -/
theorem pos_ofBits (b : BitVec 32) (hs : (b.extractLsb' 31 1 == 1#1) = false) (h0 : (b.extractLsb' 23 8).toNat ≠ 0) (h : (b.extractLsb' 23 8).toNat ≠ 2 ^ 8 - 1) :
    ∃ r : ℝ, 0 < r ∧ Ideal.ofBits .f32 b = (r : EReal) := by
  unfold Ideal.ofBits
  dsimp only
  unfold Ideal.ieee
  dsimp only
  rw [if_neg h, if_neg h0]
  refine ⟨_, ?_, rfl⟩
  rw [if_neg (by rw [hs]; decide)]
  positivity

/-- The cosine of a real number is real. -/
theorem IsReal.cos {x : EReal} (hx : IsReal x) : IsReal (Ideal.cos x) := by
  obtain ⟨a, rfl⟩ := hx
  exact ⟨Real.cos a, rfl⟩

/-- A quotient by a positive real number. -/
theorem IsReal.div {x y : EReal} (hx : IsReal x) (hy : ∃ r : ℝ, 0 < r ∧ y = (r : EReal)) : IsReal (Ideal.div x y) := by
  obtain ⟨a, rfl⟩ := hx
  obtain ⟨r, hr, rfl⟩ := hy
  unfold Ideal.div
  rw [if_neg (by exact_mod_cast hr.ne')]
  exact ⟨a * r⁻¹, by rw [EReal.coe_mul, EReal.coe_inv]⟩

/-- The square root of a number at least as large as a positive real one. -/
theorem sqrt_pos_real {x e : EReal} (hx : IsReal x) (he : ∃ r : ℝ, 0 < r ∧ e = (r : EReal)) : ∃ r : ℝ, 0 < r ∧ Ideal.sqrt (max x e) = (r : EReal) := by
  obtain ⟨a, rfl⟩ := hx
  obtain ⟨r, hr, rfl⟩ := he
  have hm : 0 < max a r := lt_max_of_lt_right hr
  refine ⟨Real.sqrt (max a r), Real.sqrt_pos.2 hm, ?_⟩
  rw [show max (a : EReal) (r : EReal) = ((max a r : ℝ) : EReal) from (EReal.coe_strictMono.monotone.map_max).symm]
  show (if max a r < 0 then (⊥ : EReal) else (Real.sqrt (max a r) : EReal)) = _
  rw [if_neg hm.not_gt]

/-- A number whose absolute value is below infinity is real. -/
theorem isReal_of_abs_lt {x : EReal} (h : Ideal.cmp .olt (max x (-x)) ⊤ = 1#1) : IsReal x := by
  have hlt : max x (-x) < ⊤ := by
    by_contra hn
    have h0 : Ideal.cmp .olt (max x (-x)) ⊤ = 0#1 := by
      show BitVec.ofBool (decide (max x (-x) < ⊤)) = 0#1
      rw [decide_eq_false hn]
      rfl
    rw [h0] at h
    exact absurd h (by decide)
  induction x with
  | bot => exact absurd hlt (by simp)
  | top => exact absurd hlt (by simp)
  | coe r => exact ⟨r, rfl⟩

/-- Zero is real. -/
theorem isReal_zero : IsReal 0 := ⟨0, rfl⟩
/-- One is real. -/
theorem isReal_one : IsReal 1 := ⟨1, rfl⟩
/-- The literal for pi is real. -/
theorem isReal_pi : IsReal (Ideal.ofBits .f32 0x40490FDB#32) := isReal_ofBits _ (by decide)
/-- The literal for two ninths is real. -/
theorem isReal_scale : IsReal (Ideal.ofBits .f32 0x3E638E39#32) := isReal_ofBits _ (by decide)
/-- The literal for nine is a positive real number. -/
theorem pos_nine : ∃ r : ℝ, 0 < r ∧ Ideal.ofBits .f32 0x41100000#32 = (r : EReal) := pos_ofBits _ (by decide) (by decide) (by decide)
/-- The literal that bounds the degrees from below is a positive real number. -/
theorem pos_tiny : ∃ r : ℝ, 0 < r ∧ Ideal.ofBits .f32 0x2B8CBCCC#32 = (r : EReal) := pos_ofBits _ (by decide) (by decide) (by decide)
/-- An integer is real. -/
theorem isReal_int (b : BitVec 32) : IsReal (FloatOps.sitofp (F := Ideal) .f32 b) := ⟨_, rfl⟩

/-! ## The coefficients -/

/-- The first layer is real when its weights are. -/
theorem real_layer1 {a3 : FVec Ideal S32x1 .f32} {a4 : FVec Ideal S32 .f32} (h3 : ∀ y, IsReal (a3 y)) (h4 : ∀ y, IsReal (a4 y)) (y : S9x32.Idx) :
    IsReal (relu32 (layer1 a3 a4) y) := by
  unfold relu32 layer1
  pointwise
  exact ((IsReal.sum _ _ fun _ => (((isReal_pi.mul ((isReal_int _).add isReal_half)).div pos_nine).cos.add isReal_one).mul (h3 _)).add (h4 _)).max isReal_zero

/-- The second layer is real when its input and weights are. -/
theorem real_layer2 {g : FVec Ideal S9x32 .f32} {a5 : FVec Ideal S64x32 .f32} {a6 : FVec Ideal S64 .f32} (hg : ∀ y, IsReal (g y)) (h5 : ∀ y, IsReal (a5 y))
    (h6 : ∀ y, IsReal (a6 y)) (y : S9x64.Idx) : IsReal (relu64 (layer2 g a5 a6) y) := by
  unfold relu64 layer2
  pointwise
  exact ((IsReal.sum _ _ fun _ => (hg _).mul (h5 _)).add (h6 _)).max isReal_zero

/-- The third layer is real when its input and weights are. -/
theorem real_layer3 {g : FVec Ideal S9x64 .f32} {a7 : FVec Ideal S32x64 .f32} {a8 : FVec Ideal S32 .f32} (hg : ∀ y, IsReal (g y)) (h7 : ∀ y, IsReal (a7 y))
    (h8 : ∀ y, IsReal (a8 y)) (y : S9x32.Idx) : IsReal (relu32 (layer3 g a7 a8) y) := by
  unfold relu32 layer3
  pointwise
  exact ((IsReal.sum _ _ fun _ => (hg _).mul (h7 _)).add (h8 _)).max isReal_zero

/-- The fourth layer is real when its input and weights are. -/
theorem real_layer4 {g : FVec Ideal S9x32 .f32} {a9 : FVec Ideal S4x32 .f32} {a10 : FVec Ideal S4 .f32} (hg : ∀ y, IsReal (g y)) (h9 : ∀ y, IsReal (a9 y))
    (h10 : ∀ y, IsReal (a10 y)) (y : S9x4.Idx) : IsReal (relu4 (layer4 g a9 a10) y) := by
  unfold relu4 layer4
  pointwise
  exact ((IsReal.sum _ _ fun _ => (hg _).mul (h9 _)).add (h10 _)).max isReal_zero

/-- The table of cosines is real. -/
theorem real_cosm (y : S9x9.Idx) : IsReal (cosm y) := by
  unfold cosm
  pointwise
  exact (((isReal_pi.mul (isReal_int _)).mul ((isReal_int _).add isReal_half)).div pos_nine).cos

/-- The coefficients are real when the weights are. -/
theorem real_coeffs {a3 : FVec Ideal S32x1 .f32} {a4 : FVec Ideal S32 .f32} {a5 : FVec Ideal S64x32 .f32} {a6 : FVec Ideal S64 .f32}
    {a7 : FVec Ideal S32x64 .f32} {a8 : FVec Ideal S32 .f32} {a9 : FVec Ideal S4x32 .f32} {a10 : FVec Ideal S4 .f32}
    (h3 : ∀ y, IsReal (a3 y)) (h4 : ∀ y, IsReal (a4 y)) (h5 : ∀ y, IsReal (a5 y)) (h6 : ∀ y, IsReal (a6 y)) (h7 : ∀ y, IsReal (a7 y)) (h8 : ∀ y, IsReal (a8 y))
    (h9 : ∀ y, IsReal (a9 y)) (h10 : ∀ y, IsReal (a10 y)) (y : S9x4.Idx) : IsReal (coeffs (layers a3 a4 a5 a6 a7 a8 a9 a10) y) :=
  isReal_scale.mul (IsReal.sum _ _ fun _ => (real_cosm _).mul
    (real_layer4 (real_layer3 (real_layer2 (real_layer1 h3 h4) h5 h6) h7 h8) h9 h10 _))

/-! ## The Laplacian -/

variable (V : Valuation Cert.ReferenceIdeal.τ Cert.ReferenceIdeal.sig (Elt Ideal))

open Cert.ReferenceIdeal.Value

/-- The edge marks are real. -/
theorem real_edges (y : S2048x2048.Idx) : IsReal (res_main_v21 (F := Ideal) V y) := by
  unfold res_main_v21
  refine Routing.scatter_forall _ _ IsReal (fun _ _ _ h => h) _ _ _ (fun i => ?_) (fun i => ?_) y
  · clean_types
    pointwise
    exact isReal_zero
  · clean_types
    pointwise
    exact isReal_one

/-- The symmetric adjacency is real. -/
theorem real_adj (y : S2048x2048.Idx) : IsReal (res_main_v23 (F := Ideal) V y) := by
  unfold res_main_v23
  clean_types
  pointwise
  exact (real_edges V _).max (real_edges V _)

/-- The degrees are real. -/
theorem real_degree (y : S2048.Idx) : IsReal (res_main_v24 (F := Ideal) V y) := by
  unfold res_main_v24
  clean_types
  pointwise
  exact IsReal.sum _ _ fun _ => real_adj V _

/-- The normalising factors are real. -/
theorem real_factor (y : S2048.Idx) : IsReal (res_main_v32 (F := Ideal) V y) := by
  unfold res_main_v32
  clean_types
  pointwise
  split
  · exact isReal_one.div (sqrt_pos_real (real_degree V y) pos_tiny)
  · exact isReal_ofBits 0x00000000#32 (by decide)

/-- The Laplacian is real, whatever the edges are. -/
theorem real_lap (y : S2048x2048.Idx) : IsReal (refL V y) := by
  have he : IsReal (res_main_v38 (F := Ideal) V y) := by
    rw [ref_eye]
    exact isReal_eyeAt _ _
  unfold refL res_main_v45
  clean_types
  pointwise
  exact he.sub (((real_factor V _).mul (real_adj V _)).mul (real_factor V _))

end Cert.Attn

end
-- ==== Proof.Finite.lean ====
/- What the precondition says: every weight and every bias of the filter network is a real number. -/
module

public import proofs.«01_k».proof.Defs
public import proofs.«01_k».proof.Proof.Reals

@[expose] public section

set_option maxRecDepth 16384

noncomputable section

namespace Cert.Attn

open Idealize.ShloMosaic Idealize.ShloMosaic.TcCoe Cert.KernelIdeal

/-- One infinity can be broadcast to the shape of each weight. -/
theorem pre_facts : Cert.Pre_finite_filter.Facts where
  bcast_S_S32x1 := by decide
  bcast_S_S32 := by decide
  bcast_S_S64x32 := by decide
  bcast_S_S64 := by decide
  bcast_S_S32x64 := by decide
  bcast_S_S4x32 := by decide
  bcast_S_S4 := by decide

/-- The pattern the comparison is made with is infinity. -/
theorem ofBits_inf : Ideal.ofBits .f32 0x7F800000#32 = ⊤ := by
  unfold Ideal.ofBits
  dsimp only
  unfold Ideal.ieee
  dsimp only
  rw [if_pos (by decide), if_pos (by decide), if_neg (by decide)]

/-- An array whose absolute values all compare below infinity holds real numbers. -/
theorem real_of_finite {s : Shape} (a : FVec Ideal s .f32) {h : Cert.Pre_finite_filter.S_.BroadcastsInDim s (![] : Fin 0 → Fin s.rank)}
    (hp : cmpf .olt (Host.absf a) (broadcastInDim s ![] h (constant Cert.Pre_finite_filter.S_ .f32 0x7F800000#32)) = fun _ => 1#1) (y : s.Idx) : IsReal (a y) := by
  refine isReal_of_abs_lt ?_
  rw [← ofBits_inf]
  exact congrFun hp y

variable {m : (ℓ : Loc nD τ sig) → Buf (Elt Ideal) ℓ}

/-- Under the precondition every entry of each of the eight weights is real. -/
theorem real_weights [Cert.Pre_finite_filter.Facts] (h : Cert.Pre_KernelIdeal_finite_filter m) (c : Dev nD) :
    (∀ y, IsReal ((m ((c : Thread nD τ).loc main_arg3) : FVec Ideal S32x1 .f32) y)) ∧ (∀ y, IsReal ((m ((c : Thread nD τ).loc main_arg4) : FVec Ideal S32 .f32) y))
    ∧ (∀ y, IsReal ((m ((c : Thread nD τ).loc main_arg5) : FVec Ideal S64x32 .f32) y)) ∧ (∀ y, IsReal ((m ((c : Thread nD τ).loc main_arg6) : FVec Ideal S64 .f32) y))
    ∧ (∀ y, IsReal ((m ((c : Thread nD τ).loc main_arg7) : FVec Ideal S32x64 .f32) y)) ∧ (∀ y, IsReal ((m ((c : Thread nD τ).loc main_arg8) : FVec Ideal S32 .f32) y))
    ∧ (∀ y, IsReal ((m ((c : Thread nD τ).loc main_arg9) : FVec Ideal S4x32 .f32) y)) ∧ (∀ y, IsReal ((m ((c : Thread nD τ).loc main_arg10) : FVec Ideal S4 .f32) y)) := by
  obtain ⟨h3, h4, h5, h6, h7, h8, h9, h10⟩ := h c
  exact ⟨real_of_finite _ h3, real_of_finite _ h4, real_of_finite _ h5, real_of_finite _ h6, real_of_finite _ h7, real_of_finite _ h8, real_of_finite _ h9, real_of_finite _ h10⟩

end Cert.Attn

end
-- ==== Proof.KernelValue.lean ====
/- What the kernel's run leaves in its result buffers, in the reference's terms. -/
module

public import proofs.«01_k».proof.Proof.HostValue

@[expose] public section

set_option maxRecDepth 16384
set_option maxHeartbeats 1000000

noncomputable section

namespace Cert.Attn

open Idealize.ShloMosaic Idealize.ShloMosaic.TcCoe Idealize.ShloMosaic.StableHlo Cert.KernelIdeal Cert.KernelIdeal.Gen

/-- The buffer that holds a term of the recurrence. -/
def termRef : ℕ → Ref sig .tc
  | 0 => main_v36
  | 1 => main_v109
  | 2 => main_v110
  | 3 => main_v111
  | 4 => main_v112
  | 5 => main_v113
  | 6 => main_v114
  | 7 => main_v115
  | _ => main_v116

/-- What the buffer of a term holds. -/
def held (W : Valuation τ sig (Elt Ideal)) : ℕ → FVec Ideal S2048x2048 .f32
  | 0 => W (Proc.devRef .tc main_v36)
  | 1 => W (Proc.devRef .tc main_v109)
  | 2 => W (Proc.devRef .tc main_v110)
  | 3 => W (Proc.devRef .tc main_v111)
  | 4 => W (Proc.devRef .tc main_v112)
  | 5 => W (Proc.devRef .tc main_v113)
  | 6 => W (Proc.devRef .tc main_v114)
  | 7 => W (Proc.devRef .tc main_v115)
  | _ => W (Proc.devRef .tc main_v116)

/-- A term's buffer is left as it is by what writes another buffer only. -/
theorem held_keep {W W' : Valuation τ sig (Elt Ideal)} {o : Ref sig .tc} (keep : ∀ r, r ≠ o → W' (Proc.devRef .tc r) = W (Proc.devRef .tc r)) :
    ∀ k, termRef k ≠ o → held W' k = held W k
  | 0, h | 1, h | 2, h | 3, h | 4, h | 5, h | 6, h | 7, h | _ + 8, h => keep _ h

/-- The features. -/
def feats (V : Valuation Cert.ReferenceIdeal.τ Cert.ReferenceIdeal.sig (Elt Ideal)) : FVec Ideal S2048x128 .f32 :=
  linOf (V (Proc.devRef .tc Cert.ReferenceIdeal.main_arg0))
    (transpose S512x128 [1, 0] (V (Proc.devRef .tc Cert.ReferenceIdeal.main_arg2) : FVec Ideal S128x512 .f32) transposes_S128x512_S512x128_1_0)

/-- The buffers hold the coefficients, the features, the Laplacian, and the terms up to term `n`. -/
structure Stage (V : Valuation Cert.ReferenceIdeal.τ Cert.ReferenceIdeal.sig (Elt Ideal)) (W : Valuation τ sig (Elt Ideal)) (n : ℕ) : Prop where
  coef : (W (Proc.devRef .tc main_v102) : FVec Ideal S9x4 .f32) = refC V
  lin : (W (Proc.devRef .tc main_v104) : FVec Ideal S2048x128 .f32) = feats V
  lap : (W (Proc.devRef .tc main_v43) : FVec Ideal S2048x2048 .f32) = refL V
  term : ∀ k, k ≤ n → held W k = termOf (refL V) k

/-- One step of the recurrence, written to the next term's buffer and to nothing else, takes a stage to the next. -/
theorem Stage.step {V : Valuation Cert.ReferenceIdeal.τ Cert.ReferenceIdeal.sig (Elt Ideal)} {W W' : Valuation τ sig (Elt Ideal)} {n : ℕ} (hn : n ≤ 6)
    (s : Stage V W (n + 1)) (keep : ∀ r, r ≠ termRef (n + 2) → W' (Proc.devRef .tc r) = W (Proc.devRef .tc r))
    (new : held W' (n + 2) = stepOf (W (Proc.devRef .tc main_v43)) (held W (n + 1)) (held W n)) : Stage V W' (n + 2) := by
  have other : ∀ n : Fin 7, main_v102 ≠ termRef (n.val + 2) ∧ main_v104 ≠ termRef (n.val + 2) ∧ main_v43 ≠ termRef (n.val + 2) := by decide
  have apart : ∀ (n : Fin 7) (k : Fin 9), k.val ≤ n.val + 1 → termRef k.val ≠ termRef (n.val + 2) := by decide
  obtain ⟨o1, o2, o3⟩ := other ⟨n, by omega⟩
  refine ⟨(keep _ o1).trans s.coef, (keep _ o2).trans s.lin, (keep _ o3).trans s.lap, fun k hk => ?_⟩
  rcases Nat.lt_or_ge k (n + 2) with h | h
  · exact (held_keep keep k (apart ⟨n, by omega⟩ ⟨k, by omega⟩ (Nat.le_of_lt_succ h))).trans (s.term k (Nat.le_of_lt_succ h))
  · obtain rfl : k = n + 2 := le_antisymm hk h
    refine new.trans ?_
    rw [s.term (n + 1) le_rfl, s.term n (Nat.le_succ n)]
    exact congrArg (fun l => stepOf l (termOf (refL V) (n + 1)) (termOf (refL V) n)) s.lap

/-! Each region of the recurrence writes the buffer of its own term and no other. -/

/-- Region 1 writes no array but that of term 2. -/
theorem region1_writes : ∀ w : Fin cfg1.W, (cfg1.win w).isOut = false ∨ Pipeline.arrRef spec1 w = termRef 2 := by decide +kernel

/-- Region 2 writes no array but that of term 3. -/
theorem region2_writes : ∀ w : Fin cfg2.W, (cfg2.win w).isOut = false ∨ Pipeline.arrRef spec2 w = termRef 3 := by decide +kernel

/-- Region 3 writes no array but that of term 4. -/
theorem region3_writes : ∀ w : Fin cfg3.W, (cfg3.win w).isOut = false ∨ Pipeline.arrRef spec3 w = termRef 4 := by decide +kernel

/-- Region 4 writes no array but that of term 5. -/
theorem region4_writes : ∀ w : Fin cfg4.W, (cfg4.win w).isOut = false ∨ Pipeline.arrRef spec4 w = termRef 5 := by decide +kernel

/-- Region 5 writes no array but that of term 6. -/
theorem region5_writes : ∀ w : Fin cfg5.W, (cfg5.win w).isOut = false ∨ Pipeline.arrRef spec5 w = termRef 6 := by decide +kernel

/-- Region 6 writes no array but that of term 7. -/
theorem region6_writes : ∀ w : Fin cfg6.W, (cfg6.win w).isOut = false ∨ Pipeline.arrRef spec6 w = termRef 7 := by decide +kernel

/-- Region 7 writes no array but that of term 8. -/
theorem region7_writes : ∀ w : Fin cfg7.W, (cfg7.win w).isOut = false ∨ Pipeline.arrRef spec7 w = termRef 8 := by decide +kernel

variable (m : (ℓ : Loc nD τ sig) → Buf (Elt Ideal) ℓ) (ρ : Dev nD → PrngReg) (c : Dev nD)
  (V : Valuation Cert.ReferenceIdeal.τ Cert.ReferenceIdeal.sig (Elt Ideal))

/-- The reference starts from the arguments the kernel starts from. -/
structure SameArgs : Prop where
  a0 : (V (Proc.devRef .tc Cert.ReferenceIdeal.main_arg0) : FVec Ideal S2048x512 .f32) = m ((c : Thread nD τ).loc main_arg0)
  a1 : (V (Proc.devRef .tc Cert.ReferenceIdeal.main_arg1) : IVec S2x65536 32) = m ((c : Thread nD τ).loc main_arg1)
  a2 : (V (Proc.devRef .tc Cert.ReferenceIdeal.main_arg2) : FVec Ideal S128x512 .f32) = m ((c : Thread nD τ).loc main_arg2)
  a3 : (V (Proc.devRef .tc Cert.ReferenceIdeal.main_arg3) : FVec Ideal S32x1 .f32) = m ((c : Thread nD τ).loc main_arg3)
  a4 : (V (Proc.devRef .tc Cert.ReferenceIdeal.main_arg4) : FVec Ideal S32 .f32) = m ((c : Thread nD τ).loc main_arg4)
  a5 : (V (Proc.devRef .tc Cert.ReferenceIdeal.main_arg5) : FVec Ideal S64x32 .f32) = m ((c : Thread nD τ).loc main_arg5)
  a6 : (V (Proc.devRef .tc Cert.ReferenceIdeal.main_arg6) : FVec Ideal S64 .f32) = m ((c : Thread nD τ).loc main_arg6)
  a7 : (V (Proc.devRef .tc Cert.ReferenceIdeal.main_arg7) : FVec Ideal S32x64 .f32) = m ((c : Thread nD τ).loc main_arg7)
  a8 : (V (Proc.devRef .tc Cert.ReferenceIdeal.main_arg8) : FVec Ideal S32 .f32) = m ((c : Thread nD τ).loc main_arg8)
  a9 : (V (Proc.devRef .tc Cert.ReferenceIdeal.main_arg9) : FVec Ideal S4x32 .f32) = m ((c : Thread nD τ).loc main_arg9)
  a10 : (V (Proc.devRef .tc Cert.ReferenceIdeal.main_arg10) : FVec Ideal S4 .f32) = m ((c : Thread nD τ).loc main_arg10)

variable {V c m} (hV : SameArgs m c V)

include hV

/-- The Laplacian and the identity, when the host operations have made them. -/
theorem at3 : (W3 m ρ c (Proc.devRef .tc main_v43) : FVec Ideal S2048x2048 .f32) = refL V
    ∧ (W3 m ρ c (Proc.devRef .tc main_v36) : FVec Ideal S2048x2048 .f32) = eyeMat := by
  refine ⟨host_lap (W2 m ρ c) V ((W2_of m ρ c main_v21 (by decide)).trans (host_adj (W0 m ρ c) V hV.a1)) ?_, (host_eye (W2 m ρ c) V).trans (ref_eye V)⟩
  refine (host_where (W1 m ρ c)).trans ?_
  exact congr (congrArg₂ select (host_pos (W0 m ρ c) V hV.a1) (host_inv (W0 m ρ c) V hV.a1))
    (congrArg (fun z : FVec Ideal S_ .f32 => broadcastInDim S2048 ![] bcast_S_S2048 (id z)) (host_zero (W0 m ρ c)))

/-- The last layer. -/
theorem at10 : (W10 m ρ c (Proc.devRef .tc main_v80) : FVec Ideal S9x4 .f32)
    = layers (V (Proc.devRef .tc Cert.ReferenceIdeal.main_arg3)) (V (Proc.devRef .tc Cert.ReferenceIdeal.main_arg4))
    (V (Proc.devRef .tc Cert.ReferenceIdeal.main_arg5)) (V (Proc.devRef .tc Cert.ReferenceIdeal.main_arg6)) (V (Proc.devRef .tc Cert.ReferenceIdeal.main_arg7))
    (V (Proc.devRef .tc Cert.ReferenceIdeal.main_arg8)) (V (Proc.devRef .tc Cert.ReferenceIdeal.main_arg9)) (V (Proc.devRef .tc Cert.ReferenceIdeal.main_arg10)) := by
  have g3 := (W2_args m ρ c main_arg3 (by decide)).trans hV.a3.symm
  have g4 := (W2_args m ρ c main_arg4 (by decide)).trans hV.a4.symm
  have g5 := (W4_args m ρ c main_arg5 (by decide)).trans hV.a5.symm
  have g6 := (W4_args m ρ c main_arg6 (by decide)).trans hV.a6.symm
  have g7 := (W6_args m ρ c main_arg7 (by decide)).trans hV.a7.symm
  have g8 := (W6_args m ρ c main_arg8 (by decide)).trans hV.a8.symm
  have g9 := (W8_args m ρ c main_arg9 (by decide)).trans hV.a9.symm
  have g10 := (W8_args m ρ c main_arg10 (by decide)).trans hV.a10.symm
  have e3 := (host_l1 (W2 m ρ c)).trans (congrArg₂ layer1 g3 g4)
  have e4 := (host_r1 (W3 m ρ c)).trans (congrArg relu32 e3)
  have e5 := (host_l2 (W4 m ρ c)).trans (congr (congrArg₂ layer2 e4 g5) g6)
  have e6 := (host_r2 (W5 m ρ c)).trans (congrArg relu64 e5)
  have e7 := (host_l3 (W6 m ρ c)).trans (congr (congrArg₂ layer3 e6 g7) g8)
  have e8 := (host_r3 (W7 m ρ c)).trans (congrArg relu32 e7)
  have e9 := (host_l4 (W8 m ρ c)).trans (congr (congrArg₂ layer4 e8 g9) g10)
  exact (host_r4 (W9 m ρ c)).trans (congrArg relu4 e9)

/-- What region 0 is entered with. -/
theorem at11 : (W11 m ρ c (Proc.devRef .tc main_v43) : FVec Ideal S2048x2048 .f32) = refL V
    ∧ (W11 m ρ c (Proc.devRef .tc main_v36) : FVec Ideal S2048x2048 .f32) = eyeMat
    ∧ (W11 m ρ c (Proc.devRef .tc main_v102) : FVec Ideal S9x4 .f32) = refC V
    ∧ (W11 m ρ c (Proc.devRef .tc main_v103) : FVec Ideal S512x128 .f32)
      = transpose S512x128 [1, 0] (V (Proc.devRef .tc Cert.ReferenceIdeal.main_arg2) : FVec Ideal S128x512 .f32) transposes_S128x512_S512x128_1_0 := by
  have keep : ∀ r : Ref sig .tc, r ∉ hostOps0_3_W → r ∉ hostOps0_4_W → r ∉ hostOps0_5_W → r ∉ hostOps0_6_W → r ∉ hostOps0_7_W → r ∉ hostOps0_8_W →
      r ∉ hostOps0_9_W → r ∉ hostOps0_10_W → W11 m ρ c (Proc.devRef .tc r) = W3 m ρ c (Proc.devRef .tc r) := fun r h3 h4 h5 h6 h7 h8 h9 h10 =>
    (W11_of m ρ c r h10).trans <| (W10_of m ρ c r h9).trans <| (W9_of m ρ c r h8).trans <| (W8_of m ρ c r h7).trans <|
      (W7_of m ρ c r h6).trans <| (W6_of m ρ c r h5).trans <| (W5_of m ρ c r h4).trans <| W4_of m ρ c r h3
  refine ⟨(keep main_v43 (by decide) (by decide) (by decide) (by decide) (by decide) (by decide) (by decide) (by decide)).trans (at3 ρ hV).1,
    (keep main_v36 (by decide) (by decide) (by decide) (by decide) (by decide) (by decide) (by decide) (by decide)).trans (at3 ρ hV).2,
    (host_coeffs (W10 m ρ c)).trans ((congrArg coeffs (at10 ρ hV)).trans (ref_layers V).symm), (host_weight (W10 m ρ c)).trans ?_⟩
  exact congrArg (fun a : FVec Ideal S128x512 .f32 => transpose S512x128 [1, 0] a transposes_S128x512_S512x128_1_0)
    ((W10_args m ρ c main_arg2 (by decide)).trans hV.a2.symm)

/-- What region 0 leaves. -/
theorem at12 : (W12 m ρ c (Proc.devRef .tc main_v43) : FVec Ideal S2048x2048 .f32) = refL V
    ∧ (W12 m ρ c (Proc.devRef .tc main_v36) : FVec Ideal S2048x2048 .f32) = eyeMat
    ∧ (W12 m ρ c (Proc.devRef .tc main_v102) : FVec Ideal S9x4 .f32) = refC V
    ∧ (W12 m ρ c (Proc.devRef .tc main_v104) : FVec Ideal S2048x128 .f32) = feats V := by
  obtain ⟨h43, h36, h102, h103⟩ := at11 ρ hV
  refine ⟨(W12_of m ρ c main_v43 (by decide +kernel)).trans h43, (W12_of m ρ c main_v36 (by decide +kernel)).trans h36,
    (W12_of m ρ c main_v102 (by decide +kernel)).trans h102, (W12_arr m ρ c 2).trans ((lin_arr (V11 m ρ) c).trans ?_)⟩
  exact congrArg₂ linOf ((W11_args m ρ c main_arg0 (by decide)).trans hV.a0.symm) h103

/-- What region 1 is entered with. -/
theorem at13 : Stage V (W13 m ρ c) 1 := by
  obtain ⟨h43, h36, h102, h104⟩ := at12 ρ hV
  refine ⟨(W13_of m ρ c main_v102 (by decide)).trans h102, (W13_of m ρ c main_v104 (by decide)).trans h104,
    (W13_of m ρ c main_v43 (by decide)).trans h43, fun k hk => ?_⟩
  match k, hk with
  | 0, _ => exact (W13_of m ρ c main_v36 (by decide)).trans h36
  | 1, _ => exact host_term1 (W12 m ρ c) V h43 (h36.trans (ref_eye V).symm)

/-! Each region takes the stage before it to the next. -/

/-- Term 2 is in its buffer after region 1. -/
theorem at14 : Stage V (W14 m ρ c) 2 :=
  (at13 ρ hV).step (by decide) (fun r hr => W14_of m ρ c r fun w e => (region1_writes w).resolve_right fun h => hr (e.symm.trans h))
    ((W14_arr m ρ c 3).trans (step_arr1 (V13 m ρ) c))

/-- Term 3 is in its buffer after region 2. -/
theorem at15 : Stage V (W15 m ρ c) 3 :=
  (at14 ρ hV).step (by decide) (fun r hr => W15_of m ρ c r fun w e => (region2_writes w).resolve_right fun h => hr (e.symm.trans h))
    ((W15_arr m ρ c 3).trans (step_arr2 (V14 m ρ) c))

/-- Term 4 is in its buffer after region 3. -/
theorem at16 : Stage V (W16 m ρ c) 4 :=
  (at15 ρ hV).step (by decide) (fun r hr => W16_of m ρ c r fun w e => (region3_writes w).resolve_right fun h => hr (e.symm.trans h))
    ((W16_arr m ρ c 3).trans (step_arr3 (V15 m ρ) c))

/-- Term 5 is in its buffer after region 4. -/
theorem at17 : Stage V (W17 m ρ c) 5 :=
  (at16 ρ hV).step (by decide) (fun r hr => W17_of m ρ c r fun w e => (region4_writes w).resolve_right fun h => hr (e.symm.trans h))
    ((W17_arr m ρ c 3).trans (step_arr4 (V16 m ρ) c))

/-- Term 6 is in its buffer after region 5. -/
theorem at18 : Stage V (W18 m ρ c) 6 :=
  (at17 ρ hV).step (by decide) (fun r hr => W18_of m ρ c r fun w e => (region5_writes w).resolve_right fun h => hr (e.symm.trans h))
    ((W18_arr m ρ c 3).trans (step_arr5 (V17 m ρ) c))

/-- Term 7 is in its buffer after region 6. -/
theorem at19 : Stage V (W19 m ρ c) 7 :=
  (at18 ρ hV).step (by decide) (fun r hr => W19_of m ρ c r fun w e => (region6_writes w).resolve_right fun h => hr (e.symm.trans h))
    ((W19_arr m ρ c 3).trans (step_arr6 (V18 m ρ) c))

/-- Term 8 is in its buffer after region 7. -/
theorem at20 : Stage V (W20 m ρ c) 8 :=
  (at19 ρ hV).step (by decide) (fun r hr => W20_of m ρ c r fun w e => (region7_writes w).resolve_right fun h => hr (e.symm.trans h))
    ((W20_arr m ρ c 3).trans (step_arr7 (V19 m ρ) c))

/-- The rows the last region finishes. -/
theorem rows_last : rowsAt (V20 m ρ) c = rows (refL V) (refC V) := by
  have s := at20 ρ hV
  unfold rows
  rw [← s.term 2 (by decide), ← s.term 3 (by decide), ← s.term 4 (by decide), ← s.term 5 (by decide), ← s.term 6 (by decide), ← s.term 7 (by decide),
    ← s.term 8 le_rfl]
  exact congrArg₂ (fun l w => rowOf l (held (W20 m ρ c) 2) (held (W20 m ρ c) 3) (held (W20 m ρ c) 4) (held (W20 m ρ c) 5) (held (W20 m ρ c) 6)
    (held (W20 m ρ c) 7) (held (W20 m ρ c) 8) w) s.lap s.coef

/-- The kernel's second result, when the Laplacian and the coefficients are real. -/
theorem kernel_att (hl : ∀ y, IsReal (refL V y)) (hc : ∀ y, IsReal (refC V y)) :
    (W22 m ρ c (Proc.devRef .tc main_v118) : FVec Ideal S8192x2048 .f32) = attTable (rows (refL V) (refC V)) := by
  have hr : ∀ f r j, rowsAt (V20 m ρ) c f r j ≠ ⊥ := fun f r j => by
    rw [rows_last ρ hV]
    exact (isReal_rows _ _ hl hc f r j).ne_bot
  refine (host_flat (W21 m ρ c)).trans ((congrArg (fun a : FVec Ideal S4x2048x2048 .f32 => shapeCast S8192x2048 a shapeCasts_S4x2048x2048_S8192x2048)
    ((W21_arr m ρ c 10).trans ((att_arr (V20 m ρ) c hr).trans (congrArg attOf (rows_last ρ hV))))).trans (table_rows _))

/-- The kernel's first result, when the Laplacian and the coefficients are real. -/
theorem kernel_out (hl : ∀ y, IsReal (refL V y)) (hc : ∀ y, IsReal (refC V y)) :
    (W22 m ρ c (Proc.devRef .tc main_v117_1) : FVec Ideal S2048x512 .f32) = outOf (rows (refL V) (refC V)) (feats V) := by
  have hr : ∀ f r j, rowsAt (V20 m ρ) c f r j ≠ ⊥ := fun f r j => by
    rw [rows_last ρ hV]
    exact (isReal_rows _ _ hl hc f r j).ne_bot
  exact (W22_of m ρ c main_v117_1 (by decide)).trans ((W21_arr m ρ c 11).trans
    ((out_arr (V20 m ρ) c hr).trans (congrArg₂ outOf (rows_last ρ hV) (at20 ρ hV).lin)))

end Cert.Attn

end
-- ==== Proof.Run.lean ====
/- The kernel's run: what its two result buffers hold when it ends. -/
module

public import proofs.«01_k».proof.Proof.Gen.KernelIdeal.Frame

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution of the kernel ends with each buffer of @main at what the last stretch of host operations leaves there. -/
theorem run_ends : θ_run defs (onTc (τ := τ) (main (F := Ideal))) ⟨m, fun _ => 0, ρ⟩
    (fun r => ∀ c : Dev nD, ∀ b ∈ Pipeline.ucRefs τ sig, r.2.mem ((c : Thread nD τ).1, b) = W22 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun _ h _ => h)

end Cert.Attn

end
-- ==== Proof.Equation.lean ====
/- The kernel and the reference, run from the same finite weights, end with the same two results. -/
module

public import proofs.«01_k».proof.Proof.Finite
public import proofs.«01_k».proof.Proof.KernelValue
public import proofs.«01_k».proof.Proof.RefOut
public import proofs.«01_k».proof.Proof.Run
public import proofs.«01_k».proof.Proof.Gen.ReferenceIdeal.Run

@[expose] public section

set_option maxRecDepth 16384
set_option maxHeartbeats 1000000

noncomputable section

namespace Cert.Attn

open Idealize.ShloMosaic Idealize.ShloMosaic.TcCoe Idealize.ShloMosaic.StableHlo Idealize.SL.Sem Cert.KernelIdeal Cert.KernelIdeal.Gen

variable {V : Valuation Cert.ReferenceIdeal.τ Cert.ReferenceIdeal.sig (Elt Ideal)} {m : (ℓ : Loc nD τ sig) → Buf (Elt Ideal) ℓ} {c : Dev nD}

/-- The reference's coefficients are real when the kernel's weights are finite. -/
theorem real_refC [Cert.Pre_finite_filter.Facts] (hp : Cert.Pre_KernelIdeal_finite_filter m) (hV : SameArgs m c V) (y : S9x4.Idx) : IsReal (refC V y) := by
  obtain ⟨h3, h4, h5, h6, h7, h8, h9, h10⟩ := real_weights hp c
  rw [ref_layers, hV.a3, hV.a4, hV.a5, hV.a6, hV.a7, hV.a8, hV.a9, hV.a10]
  exact real_coeffs h3 h4 h5 h6 h7 h8 h9 h10 y

/-- The value claim: on finite filter weights both programs end with the attention table and with the products of its
    filter blocks with the features, and leave their arguments as they were. -/
theorem equation [hPre : Cert.Pre_finite_filter.Facts] : Cert.algebraic_KernelIdeal_ReferenceIdeal_pre_finite_filter := by
  intro m g m' g' hp hargs
  have hV : ∀ c : Dev nD, SameArgs m c (launchContents m' c) := fun c => by
    obtain ⟨h0, h1, h2, h3, h4, h5, h6, h7, h8, h9, h10⟩ := hargs c
    exact ⟨h0, h1, h2, h3, h4, h5, h6, h7, h8, h9, h10⟩
  have hl := fun c : Dev nD => real_lap (launchContents m' c)
  have hc := fun c : Dev nD => real_refC hp (hV c)
  refine ⟨fun c => outOf (rows (refL (launchContents m' c)) (refC (launchContents m' c))) (feats (launchContents m' c)),
    fun c => attTable (rows (refL (launchContents m' c)) (refC (launchContents m' c))), ?_, ?_⟩
  · refine (θ_run defs _ _).mono (fun r h c => ?_) (run_ends m g)
    exact ⟨(h c _ (mem_uc main_v117_1 (by decide))).trans (kernel_out g (hV c) (hl c) (hc c)),
      (h c _ (mem_uc main_v118 (by decide))).trans (kernel_att g (hV c) (hl c) (hc c)),
      (h c _ (mem_uc main_arg0 (by decide))).trans (W22_main_arg0 m g c),
      (h c _ (mem_uc main_arg1 (by decide))).trans (W22_main_arg1 m g c),
      (h c _ (mem_uc main_arg2 (by decide))).trans (W22_main_arg2 m g c),
      (h c _ (mem_uc main_arg3 (by decide))).trans (W22_main_arg3 m g c),
      (h c _ (mem_uc main_arg4 (by decide))).trans (W22_main_arg4 m g c),
      (h c _ (mem_uc main_arg5 (by decide))).trans (W22_main_arg5 m g c),
      (h c _ (mem_uc main_arg6 (by decide))).trans (W22_main_arg6 m g c),
      (h c _ (mem_uc main_arg7 (by decide))).trans (W22_main_arg7 m g c),
      (h c _ (mem_uc main_arg8 (by decide))).trans (W22_main_arg8 m g c),
      (h c _ (mem_uc main_arg9 (by decide))).trans (W22_main_arg9 m g c),
      (h c _ (mem_uc main_arg10 (by decide))).trans (W22_main_arg10 m g c)⟩
  · refine (θ_run Cert.ReferenceIdeal.defs _ _).mono (fun r h c => ⟨(h c).1.trans ?_, (h c).2.1.trans (ref_soft _ (hl c) (hc c)), (h c).2.2⟩)
      (Cert.ReferenceIdeal.Value.run (F := Ideal) m' g')
    rw [ref_soft _ (hl c) (hc c), ref_lin]
    exact out_side _ _

end Cert.Attn

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference's run leaves its arguments and every counter as they should be. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩) (Cert.ReferenceIdeal.Value.run (F := Ideal) m ρ)

/-- All the claims of the certificate. -/
theorem claim : Cert.Claim := ⟨Cert.Kernel.Gen.facts, Cert.KernelIdeal.Gen.facts, Cert.ReferenceIdeal.Gen.facts, Cert.Attn.pre_facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  IdealRules.named_const.statement Cert.KernelIdeal.κ "mask" .f32 0xFF61B1E6#32 ⊥ rfl,
  Cert.Attn.equation (hPre := Cert.Attn.pre_facts)⟩

end Cert.Proof

end
